-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "taken" .f32 0x7F61B1E6#32 ⊤
  ∧ IdealRules.named_const.Statement Cert.KernelIdeal.κ "inv_sigma_a" .f32 0x3D888889#32 ((1 / 15 : ℝ) : EReal)

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S1x256x3 : Shape := ⟨3, ![1, 256, 3]⟩
abbrev S256x256 : Shape := ⟨2, ![256, 256]⟩
abbrev S256 : Shape := ⟨1, ![256]⟩
abbrev S_ : Shape := ⟨0, ![]⟩

class Facts : Prop where
  bcast_S_S1x256x3 : S_.BroadcastsInDim S1x256x3 (![] : Fin 0 → Fin S1x256x3.rank)

variable [Facts]

def fn {F : FTy → Type} [FloatOps F] (main_arg0 : FVec F S1x256x3 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256 .f32) (main_arg8 : FVec F S256 .f32) : IVec S1x256x3 1 :=
  let main_v0 : FVec F S1x256x3 .f32 := Host.absf main_arg0
  let main_cst : FVec F S_ .f32 := constant S_ .f32 0x7F800000#32
  let main_v1 : FVec F S1x256x3 .f32 := broadcastInDim S1x256x3 ![] bcast_S_S1x256x3 main_cst
  let main_v2 : IVec S1x256x3 1 := cmpf .olt main_v0 main_v1
  main_v2
-- ==== Kernel.lean ====
abbrev S1x256x3 : Shape := ⟨3, ![1, 256, 3]⟩
abbrev S256x256 : Shape := ⟨2, ![256, 256]⟩
abbrev S256 : Shape := ⟨1, ![256]⟩
abbrev S256x3 : Shape := ⟨2, ![256, 3]⟩
abbrev S3x256 : Shape := ⟨2, ![3, 256]⟩
abbrev S128x2x256 : Shape := ⟨3, ![128, 2, 256]⟩
abbrev S128x1x256 : Shape := ⟨3, ![128, 1, 256]⟩
abbrev S128x256 : Shape := ⟨2, ![128, 256]⟩
abbrev S1x256 : Shape := ⟨2, ![1, 256]⟩
abbrev S256x1 : Shape := ⟨2, ![256, 1]⟩
abbrev S1x128 : Shape := ⟨2, ![1, 128]⟩
abbrev S256x128 : Shape := ⟨2, ![256, 128]⟩
abbrev S65536x1 : Shape := ⟨2, ![65536, 1]⟩
abbrev S65536x256 : Shape := ⟨2, ![65536, 256]⟩
abbrev S2048x1 : Shape := ⟨2, ![2048, 1]⟩
abbrev S2048x256 : Shape := ⟨2, ![2048, 256]⟩
abbrev S2048x128 : Shape := ⟨2, ![2048, 128]⟩
abbrev S2048 : Shape := ⟨1, ![2048]⟩
abbrev S1x256x256x256 : Shape := ⟨4, ![1, 256, 256, 256]⟩

abbrev nBuf : Space → Nat
  | .hbm => 42
  | .vmem => 26
  | .smem => 0
  | _ => 0

abbrev bufTy : (tb : Table) → Fin (tcTables nBuf tb) → BufTy
  | .hbm, ⟨0, _⟩ => ⟨S1x256x3, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x3, .f32⟩
  | .hbm, ⟨10, _⟩ => ⟨S3x256, .f32⟩
  | .hbm, ⟨11, _⟩ => ⟨S256x256, .f32⟩
  | .hbm, ⟨12, _⟩ => ⟨S128x2x256, .f32⟩
  | .hbm, ⟨13, _⟩ => ⟨S128x1x256, .f32⟩
  | .hbm, ⟨14, _⟩ => ⟨S128x256, .f32⟩
  | .hbm, ⟨15, _⟩ => ⟨S128x1x256, .f32⟩
  | .hbm, ⟨16, _⟩ => ⟨S128x256, .f32⟩
  | .hbm, ⟨17, _⟩ => ⟨S256x256, .f32⟩
  | .hbm, ⟨18, _⟩ => ⟨S256x256, .f32⟩
  | .hbm, ⟨19, _⟩ => ⟨S128x2x256, .f32⟩
  | .hbm, ⟨20, _⟩ => ⟨S128x1x256, .f32⟩
  | .hbm, ⟨21, _⟩ => ⟨S128x256, .f32⟩
  | .hbm, ⟨22, _⟩ => ⟨S128x1x256, .f32⟩
  | .hbm, ⟨23, _⟩ => ⟨S128x256, .f32⟩
  | .hbm, ⟨24, _⟩ => ⟨S256x256, .f32⟩
  | .hbm, ⟨25, _⟩ => ⟨S256x256, .f32⟩
  | .hbm, ⟨26, _⟩ => ⟨S1x256, .f32⟩
  | .hbm, ⟨27, _⟩ => ⟨S256x256, .f32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .f32⟩
  | .hbm, ⟨32, _⟩ => ⟨S65536x1, .f32⟩
  | .hbm, ⟨33, _⟩ => ⟨S65536x1, .i32⟩
  | .hbm, ⟨34, _⟩ => ⟨S65536x1, .i32⟩
  | .hbm, ⟨35, _⟩ => ⟨S65536x1, .i32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S65536x256, .f32⟩
  | .hbm, ⟨41, _⟩ => ⟨S1x256x256x256, .f32⟩
  | .local _ .vmem, ⟨0, _⟩ => ⟨S256x3, .f32⟩
  | .local _ .vmem, ⟨1, _⟩ => ⟨S3x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .i32⟩
  | .local _ .vmem, ⟨6, _⟩ => ⟨S256x256, .i32⟩
  | .local _ .vmem, ⟨7, _⟩ => ⟨S256x256, .i32⟩
  | .local _ .vmem, ⟨8, _⟩ => ⟨S256x256, .f32⟩
  | .local _ .vmem, ⟨9, _⟩ => ⟨S2048x1, .f32⟩
  | .local _ .vmem, ⟨10, _⟩ => ⟨S2048x1, .f32⟩
  | .local _ .vmem, ⟨11, _⟩ => ⟨S2048x1, .i32⟩
  | .local _ .vmem, ⟨12, _⟩ => ⟨S2048x1, .i32⟩
  | .local _ .vmem, ⟨13, _⟩ => ⟨S2048x1, .i32⟩
  | .local _ .vmem, ⟨14, _⟩ => ⟨S2048x1, .i32⟩
  | .local _ .vmem, ⟨15, _⟩ => ⟨S2048x1, .i32⟩
  | .local _ .vmem, ⟨16, _⟩ => ⟨S2048x1, .i32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | _, _ => ⟨S1x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := .none

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2048x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "inv_sigma_a" => some ((1 / 15 : ℝ) : EReal)
  | "taken" => some ⊤
  | _ => none
-- ==== ReferenceIdeal.lean ====
abbrev S1x256x3 : Shape := ⟨3, ![1, 256, 3]⟩
abbrev S256x256 : Shape := ⟨2, ![256, 256]⟩
abbrev S256 : Shape := ⟨1, ![256]⟩
abbrev S1x256x256 : Shape := ⟨3, ![1, 256, 256]⟩
abbrev S_ : Shape := ⟨0, ![]⟩
abbrev S1x256 : Shape := ⟨2, ![1, 256]⟩
abbrev S1x256x1 : Shape := ⟨3, ![1, 256, 1]⟩
abbrev S1x1x256 : Shape := ⟨3, ![1, 1, 256]⟩
abbrev S1x256x4 : Shape := ⟨3, ![1, 256, 4]⟩
abbrev S1x1x256x3 : Shape := ⟨4, ![1, 1, 256, 3]⟩
abbrev S1x256x256x3 : Shape := ⟨4, ![1, 256, 256, 3]⟩
abbrev S1x256x3x1 : Shape := ⟨4, ![1, 256, 3, 1]⟩
abbrev S1x256x3x3 : Shape := ⟨4, ![1, 256, 3, 3]⟩
abbrev S256x3x3x1 : Shape := ⟨4, ![256, 3, 3, 1]⟩
abbrev S1 : Shape := ⟨1, ![1]⟩
abbrev S1x1x1x1 : Shape := ⟨4, ![1, 1, 1, 1]⟩
abbrev S256x3x3 : Shape := ⟨3, ![256, 3, 3]⟩
abbrev S1x256x1x3 : Shape := ⟨4, ![1, 256, 1, 3]⟩
abbrev S1x256x1x3x3 : Shape := ⟨5, ![1, 256, 1, 3, 3]⟩
abbrev S1x256x256x3x3 : Shape := ⟨5, ![1, 256, 256, 3, 3]⟩
abbrev S1x256x256x1x3 : Shape := ⟨5, ![1, 256, 256, 1, 3]⟩
abbrev S1x256x256x3x1 : Shape := ⟨5, ![1, 256, 256, 3, 1]⟩
abbrev S256x1 : Shape := ⟨2, ![256, 1]⟩
abbrev S1x256x256x1 : Shape := ⟨4, ![1, 256, 256, 1]⟩
abbrev S128 : Shape := ⟨1, ![128]⟩
abbrev S1x1x1x128 : Shape := ⟨4, ![1, 1, 1, 128]⟩
abbrev S1x256x256x128 : Shape := ⟨4, ![1, 256, 256, 128]⟩
abbrev S1x256x256x128x1 : Shape := ⟨5, ![1, 256, 256, 128, 1]⟩
abbrev S1x256x256x128x2 : Shape := ⟨5, ![1, 256, 256, 128, 2]⟩
abbrev S1x256x256x256 : Shape := ⟨4, ![1, 256, 256, 256]⟩
abbrev S1x1x1x256 : Shape := ⟨4, ![1, 1, 1, 256]⟩
abbrev S181 : Shape := ⟨1, ![181]⟩
abbrev S181x1 : Shape := ⟨2, ![181, 1]⟩
abbrev S1x128 : Shape := ⟨2, ![1, 128]⟩
abbrev S181x128 : Shape := ⟨2, ![181, 128]⟩
abbrev S181x128x1 : Shape := ⟨3, ![181, 128, 1]⟩
abbrev S181x128x2 : Shape := ⟨3, ![181, 128, 2]⟩
abbrev S181x256 : Shape := ⟨2, ![181, 256]⟩
abbrev S1x1x1x1x1 : Shape := ⟨5, ![1, 1, 1, 1, 1]⟩
abbrev S1x256x256x3x256 : Shape := ⟨5, ![1, 256, 256, 3, 256]⟩

abbrev nBuf : Space → Nat
  | .hbm => 278
  | .vmem => 0
  | .smem => 0
  | _ => 0

abbrev hbmTy0_0 (i : Nat) : BufTy := match i % 128 with
  | 0 => ⟨S1x256x3, .f32⟩
  | 1 => ⟨S256x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256, .f32⟩
  | 8 => ⟨S256, .f32⟩
  | 9 => ⟨S1x256x256, .f32⟩
  | 10 => ⟨S1x256x3, .f32⟩
  | 11 => ⟨S_, .f32⟩
  | 12 => ⟨S1x256, .f32⟩
  | 13 => ⟨S1x256x1, .f32⟩
  | 14 => ⟨S1x1x256, .f32⟩
  | 15 => ⟨S1x256x256, .f32⟩
  | 16 => ⟨S1x256x256, .f32⟩
  | 17 => ⟨S1x256x256, .f32⟩
  | 18 => ⟨S_, .f32⟩
  | 19 => ⟨S1x256x256, .f32⟩
  | 20 => ⟨S1x256x256, .f32⟩
  | 21 => ⟨S1x256x256, .f32⟩
  | 22 => ⟨S_, .f32⟩
  | 23 => ⟨S1x256x256, .f32⟩
  | 24 => ⟨S1x256x256, .f32⟩
  | 25 => ⟨S1x256x256, .f32⟩
  | 26 => ⟨S_, .f32⟩
  | 27 => ⟨S1x256x256, .f32⟩
  | 28 => ⟨S1x256x256, .f32⟩
  | 29 => ⟨S1x256x256, .f32⟩
  | 30 => ⟨S1x256x4, .f32⟩
  | 31 => ⟨S1x256x4, .i32⟩
  | 32 => ⟨S1x256x3, .i32⟩
  | 33 => ⟨S1x1x256x3, .f32⟩
  | 34 => ⟨S1x256x256x3, .f32⟩
  | 35 => ⟨S1x256x3x1, .i32⟩
  | 36 => ⟨S1x256x3x3, .i32⟩
  | 37 => ⟨S_, .i32⟩
  | 38 => ⟨S1x256x3x3, .i32⟩
  | 39 => ⟨S1x256x3x3, .i1⟩
  | 40 => ⟨S_, .i32⟩
  | 41 => ⟨S1x256x3x3, .i32⟩
  | 42 => ⟨S1x256x3x3, .i32⟩
  | 43 => ⟨S1x256x3x3, .i32⟩
  | 44 => ⟨S256x3x3x1, .i32⟩
  | 45 => ⟨S1, .i32⟩
  | 46 => ⟨S_, .i32⟩
  | 47 => ⟨S256x3x3x1, .i32⟩
  | 48 => ⟨S256x3x3x1, .i1⟩
  | 49 => ⟨S1x1x1x1, .i32⟩
  | 50 => ⟨S256x3x3x1, .i32⟩
  | 51 => ⟨S256x3x3x1, .i1⟩
  | 52 => ⟨S256x3x3x1, .i1⟩
  | 53 => ⟨S_, .i1⟩
  | 54 => ⟨S256x3x3, .i1⟩
  | 55 => ⟨S1x256x3x3, .f32⟩
  | 56 => ⟨S1x256x3x3, .i1⟩
  | 57 => ⟨S_, .f32⟩
  | 58 => ⟨S1x256x3x3, .f32⟩
  | 59 => ⟨S1x256x3x3, .f32⟩
  | 60 => ⟨S1x256x1x3, .f32⟩
  | 61 => ⟨S1x256x3x3, .f32⟩
  | 62 => ⟨S1x256x3x3, .f32⟩
  | 63 => ⟨S1x1x256x3, .f32⟩
  | 64 => ⟨S1x256x1x3, .f32⟩
  | 65 => ⟨S1x256x256x3, .f32⟩
  | 66 => ⟨S1x256x256x3, .f32⟩
  | 67 => ⟨S1x256x256x3, .f32⟩
  | 68 => ⟨S1x256x1x3x3, .f32⟩
  | 69 => ⟨S1x256x256x3x3, .f32⟩
  | 70 => ⟨S1x256x256x1x3, .f32⟩
  | 71 => ⟨S1x256x256x3x3, .f32⟩
  | 72 => ⟨S1x256x256x3x1, .f32⟩
  | 73 => ⟨S1x256x256x3, .f32⟩
  | 74 => ⟨S1x256x256x3x1, .f32⟩
  | 75 => ⟨S1x256x256x3, .f32⟩
  | 76 => ⟨S1x256x256x3x1, .f32⟩
  | 77 => ⟨S1x256x256x3, .f32⟩
  | 78 => ⟨S1x256x256x3x1, .f32⟩
  | 79 => ⟨S1x256x256x3, .f32⟩
  | 80 => ⟨S1x256x256x3x1, .f32⟩
  | 81 => ⟨S1x256x256x3, .f32⟩
  | 82 => ⟨S1x256x256x3x1, .f32⟩
  | 83 => ⟨S1x256x256x3, .f32⟩
  | 84 => ⟨S1x256x256x3, .f32⟩
  | 85 => ⟨S1x256x256x3, .f32⟩
  | 86 => ⟨S1x256x256x3, .f32⟩
  | 87 => ⟨S1x256x256x3, .f32⟩
  | 88 => ⟨S1x256x256x3, .f32⟩
  | 89 => ⟨S1x256x256x3, .f32⟩
  | 90 => ⟨S1x256x256x3, .f32⟩
  | 91 => ⟨S1x256x256x3, .f32⟩
  | 92 => ⟨S1x256x256x3, .f32⟩
  | 93 => ⟨S1x256x256x3x1, .f32⟩
  | 94 => ⟨S1x256x256x3x1, .f32⟩
  | 95 => ⟨S1x256x256x3x1, .f32⟩
  | 96 => ⟨S1x256x256x3x3, .f32⟩
  | 97 => ⟨S1x256x256x3x3, .f32⟩
  | 98 => ⟨S_, .f32⟩
  | 99 => ⟨S1x256x256x3, .f32⟩
  | 100 => ⟨S1x256x256x3, .f32⟩
  | 101 => ⟨S1x256x256x3x3, .f32⟩
  | 102 => ⟨S_, .f32⟩
  | 103 => ⟨S1x256x256x3, .f32⟩
  | 104 => ⟨S1x256x256x3, .f32⟩
  | 105 => ⟨S256, .i32⟩
  | 106 => ⟨S256x1, .i32⟩
  | 107 => ⟨S256, .i32⟩
  | 108 => ⟨S1x256, .i32⟩
  | 109 => ⟨S256x256, .i32⟩
  | 110 => ⟨S256x256, .i32⟩
  | 111 => ⟨S256x256, .i1⟩
  | 112 => ⟨S1x256x256x1, .i1⟩
  | 113 => ⟨S_, .f32⟩
  | 114 => ⟨S1x256x256x3, .f32⟩
  | 115 => ⟨S1x256x256x3, .i1⟩
  | 116 => ⟨S_, .f32⟩
  | 117 => ⟨S1x256x256x3, .f32⟩
  | 118 => ⟨S1x256x256x3, .i1⟩
  | 119 => ⟨S1x256x256x3, .i1⟩
  | 120 => ⟨S_, .f32⟩
  | 121 => ⟨S1x256x256x3, .f32⟩
  | 122 => ⟨S1x256x256x3, .i1⟩
  | 123 => ⟨S1x256x256x3, .i1⟩
  | 124 => ⟨S1x256x256x3, .i1⟩
  | 125 => ⟨S1x256x256x3, .i1⟩
  | 126 => ⟨S_, .f32⟩
  | 127 => ⟨S_, .f32⟩
  | _ => ⟨S1x256x3, .f32⟩

abbrev hbmTy0_1 (i : Nat) : BufTy := match i % 128 with
  | 0 => ⟨S1x256x256x3, .f32⟩
  | 1 => ⟨S1x256x256x3, .f32⟩
  | 2 => ⟨S_, .f32⟩
  | 3 => ⟨S1x256x256x3, .f32⟩
  | 4 => ⟨S1x256x256x3, .f32⟩
  | 5 => ⟨S1x256x256x3, .f32⟩
  | 6 => ⟨S1x256x256x3, .i32⟩
  | 7 => ⟨S128, .i32⟩
  | 8 => ⟨S_, .i32⟩
  | 9 => ⟨S128, .i32⟩
  | 10 => ⟨S128, .i32⟩
  | 11 => ⟨S_, .i32⟩
  | 12 => ⟨S128, .i32⟩
  | 13 => ⟨S128, .i32⟩
  | 14 => ⟨S128, .f32⟩
  | 15 => ⟨S_, .f32⟩
  | 16 => ⟨S128, .f32⟩
  | 17 => ⟨S128, .f32⟩
  | 18 => ⟨S128, .f32⟩
  | 19 => ⟨S1x256x256x1, .f32⟩
  | 20 => ⟨S1x1x1x128, .f32⟩
  | 21 => ⟨S1x256x256x128, .f32⟩
  | 22 => ⟨S1x256x256x128, .f32⟩
  | 23 => ⟨S1x256x256x128, .f32⟩
  | 24 => ⟨S1x256x256x128, .f32⟩
  | 25 => ⟨S1x256x256x128, .f32⟩
  | 26 => ⟨S1x256x256x128x1, .f32⟩
  | 27 => ⟨S1x256x256x128x1, .f32⟩
  | 28 => ⟨S1x256x256x128x2, .f32⟩
  | 29 => ⟨S1x256x256x256, .f32⟩
  | 30 => ⟨S256x256, .f32⟩
  | 31 => ⟨S1x256x256x256, .f32⟩
  | 32 => ⟨S1x1x1x256, .f32⟩
  | 33 => ⟨S1x256x256x256, .f32⟩
  | 34 => ⟨S1x256x256x256, .f32⟩
  | 35 => ⟨S181, .i32⟩
  | 36 => ⟨S181, .f32⟩
  | 37 => ⟨S_, .f32⟩
  | 38 => ⟨S181, .f32⟩
  | 39 => ⟨S181, .f32⟩
  | 40 => ⟨S128, .i32⟩
  | 41 => ⟨S_, .i32⟩
  | 42 => ⟨S128, .i32⟩
  | 43 => ⟨S128, .i32⟩
  | 44 => ⟨S_, .i32⟩
  | 45 => ⟨S128, .i32⟩
  | 46 => ⟨S128, .i32⟩
  | 47 => ⟨S128, .f32⟩
  | 48 => ⟨S_, .f32⟩
  | 49 => ⟨S128, .f32⟩
  | 50 => ⟨S128, .f32⟩
  | 51 => ⟨S128, .f32⟩
  | 52 => ⟨S181x1, .f32⟩
  | 53 => ⟨S1x128, .f32⟩
  | 54 => ⟨S181x128, .f32⟩
  | 55 => ⟨S181x128, .f32⟩
  | 56 => ⟨S181x128, .f32⟩
  | 57 => ⟨S181x128, .f32⟩
  | 58 => ⟨S181x128, .f32⟩
  | 59 => ⟨S181x128x1, .f32⟩
  | 60 => ⟨S181x128x1, .f32⟩
  | 61 => ⟨S181x128x2, .f32⟩
  | 62 => ⟨S181x256, .f32⟩
  | 63 => ⟨S256x256, .f32⟩
  | 64 => ⟨S181x256, .f32⟩
  | 65 => ⟨S1x256, .f32⟩
  | 66 => ⟨S181x256, .f32⟩
  | 67 => ⟨S181x256, .f32⟩
  | 68 => ⟨S_, .i32⟩
  | 69 => ⟨S1x256x256x3, .i32⟩
  | 70 => ⟨S1x256x256x3, .i1⟩
  | 71 => ⟨S_, .i32⟩
  | 72 => ⟨S1x256x256x3, .i32⟩
  | 73 => ⟨S1x256x256x3, .i32⟩
  | 74 => ⟨S1x256x256x3, .i32⟩
  | 75 => ⟨S1x256x256x3x1, .i32⟩
  | 76 => ⟨S1, .i32⟩
  | 77 => ⟨S_, .i32⟩
  | 78 => ⟨S1x256x256x3x1, .i32⟩
  | 79 => ⟨S1x256x256x3x1, .i1⟩
  | 80 => ⟨S1x1x1x1x1, .i32⟩
  | 81 => ⟨S1x256x256x3x1, .i32⟩
  | 82 => ⟨S1x256x256x3x1, .i1⟩
  | 83 => ⟨S1x256x256x3x1, .i1⟩
  | 84 => ⟨S_, .i1⟩
  | 85 => ⟨S1x256x256x3, .i1⟩
  | 86 => ⟨S1x256x256x3x256, .f32⟩
  | 87 => ⟨S1x256x256x3x256, .i1⟩
  | 88 => ⟨S_, .f32⟩
  | 89 => ⟨S1x256x256x3x256, .f32⟩
  | 90 => ⟨S1x256x256x3x256, .f32⟩
  | 91 => ⟨S_, .f32⟩
  | 92 => ⟨S1x256x256x256, .f32⟩
  | 93 => ⟨S1x256x256x256, .f32⟩
  | 94 => ⟨S_, .f32⟩
  | 95 => ⟨S1x256x256x256, .f32⟩
  | 96 => ⟨S1x256x256x256, .i1⟩
  | 97 => ⟨S_, .f32⟩
  | 98 => ⟨S1x256x256x256, .f32⟩
  | 99 => ⟨S1x256x256x256, .f32⟩
  | 100 => ⟨S1x256x256x256, .f32⟩
  | 101 => ⟨S256x256, .f32⟩
  | 102 => ⟨S1x256x256x256, .f32⟩
  | 103 => ⟨S1x1x1x256, .f32⟩
  | 104 => ⟨S1x256x256x256, .f32⟩
  | 105 => ⟨S1x256x256x256, .f32⟩
  | 106 => ⟨S_, .f32⟩
  | 107 => ⟨S1x256x256, .f32⟩
  | 108 => ⟨S1x256x256x1, .f32⟩
  | 109 => ⟨S_, .f32⟩
  | 110 => ⟨S1x256x256x1, .f32⟩
  | 111 => ⟨S1x256x256x1, .f32⟩
  | 112 => ⟨S_, .i32⟩
  | 113 => ⟨S_, .f32⟩
  | 114 => ⟨S1x256x256, .f32⟩
  | 115 => ⟨S1x256x256x1, .f32⟩
  | 116 => ⟨S_, .f32⟩
  | 117 => ⟨S1x256x256x1, .f32⟩
  | 118 => ⟨S1x256x256x1, .f32⟩
  | 119 => ⟨S1x256x256x256, .f32⟩
  | 120 => ⟨S1x256x256x256, .f32⟩
  | 121 => ⟨S1x256x256x256, .f32⟩
  | 122 => ⟨S_, .f32⟩
  | 123 => ⟨S_, .f32⟩
  | 124 => ⟨S_, .f32⟩
  | 125 => ⟨S_, .f32⟩
  | 126 => ⟨S1x256x256, .f32⟩
  | 127 => ⟨S1x256x256x1, .f32⟩
  | _ => ⟨S1x256x3, .f32⟩

abbrev hbmTy0_2 (i : Nat) : BufTy := match i % 128 with
  | 0 => ⟨S1x256x256x1, .f32⟩
  | 1 => ⟨S1x256x256x1, .f32⟩
  | 2 => ⟨S_, .f32⟩
  | 3 => ⟨S_, .i1⟩
  | 4 => ⟨S_, .f32⟩
  | 5 => ⟨S_, .f32⟩
  | 6 => ⟨S1x256x256x1, .f32⟩
  | 7 => ⟨S1x256x256x1, .f32⟩
  | 8 => ⟨S1x256x256x256, .f32⟩
  | 9 => ⟨S1x256x256x256, .f32⟩
  | 10 => ⟨S_, .f32⟩
  | 11 => ⟨S1x256x256x1, .f32⟩
  | 12 => ⟨S1x256x256x1, .f32⟩
  | 13 => ⟨S1x256x256x1, .f32⟩
  | 14 => ⟨S1x256x256x256, .f32⟩
  | 15 => ⟨S1x256x256x256, .f32⟩
  | 16 => ⟨S1x1x1x256, .f32⟩
  | 17 => ⟨S1x256x256x256, .f32⟩
  | 18 => ⟨S1x256x256x256, .f32⟩
  | 19 => ⟨S1x1x1x256, .f32⟩
  | 20 => ⟨S1x256x256x256, .f32⟩
  | 21 => ⟨S1x256x256x256, .f32⟩
  | _ => ⟨S1x256x3, .f32⟩

abbrev hbmTy (i : Nat) : BufTy := match i / 128 with
  | 0 => hbmTy0_0 i
  | 1 => hbmTy0_1 i
  | 2 => hbmTy0_2 i
  | _ => ⟨S1x256x3, .f32⟩

abbrev bufTy : (tb : Table) → Fin (tcTables nBuf tb) → BufTy
  | .hbm, ⟨i, _⟩ => hbmTy i
  | _, _ => ⟨S1x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_values : Ref sig .tc := ⟨.hbm, 30, rfl⟩
abbrev main_indices : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_call1_v0 : Ref sig .tc := ⟨.hbm, 97, rfl⟩
abbrev main_call1_cst : Ref sig .tc := ⟨.hbm, 98, rfl⟩
abbrev main_call1_v1 : Ref sig .tc := ⟨.hbm, 99, rfl⟩
abbrev main_v60 : Ref sig .tc := ⟨.hbm, 100, rfl⟩
abbrev main_v61 : Ref sig .tc := ⟨.hbm, 101, rfl⟩
abbrev main_cst_3 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_4 : Ref sig .tc := ⟨.hbm, 113, rfl⟩
abbrev main_v72 : Ref sig .tc := ⟨.hbm, 114, rfl⟩
abbrev main_v73 : Ref sig .tc := ⟨.hbm, 115, rfl⟩
abbrev main_cst_5 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_6 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_7 : Ref sig .tc := ⟨.hbm, 126, rfl⟩
abbrev main_call2_v0 : Ref sig .tc := ⟨.hbm, 127, rfl⟩
abbrev main_call2_v1 : Ref sig .tc := ⟨.hbm, 128, rfl⟩
abbrev main_v82 : Ref sig .tc := ⟨.hbm, 129, rfl⟩
abbrev main_cst_8 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c : Ref sig .tc := ⟨.hbm, 136, rfl⟩
abbrev main_v88 : Ref sig .tc := ⟨.hbm, 137, rfl⟩
abbrev main_v89 : Ref sig .tc := ⟨.hbm, 138, rfl⟩
abbrev main_c_9 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_10 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_11 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_c_12 : Ref sig .tc := ⟨.hbm, 169, rfl⟩
abbrev main_v117 : Ref sig .tc := ⟨.hbm, 170, rfl⟩
abbrev main_v118 : Ref sig .tc := ⟨.hbm, 171, rfl⟩
abbrev main_c_13 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_14 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_call4_c : Ref sig .tc := ⟨.hbm, 196, rfl⟩
abbrev main_call4_v0 : Ref sig .tc := ⟨.hbm, 197, rfl⟩
abbrev main_call4_v1 : Ref sig .tc := ⟨.hbm, 198, rfl⟩
abbrev main_call4_c_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_c_1 : Ref sig .tc := ⟨.hbm, 204, rfl⟩
abbrev main_call4_c_2 : Ref sig .tc := ⟨.hbm, 205, rfl⟩
abbrev main_call4_v6 : Ref sig .tc := ⟨.hbm, 206, rfl⟩
abbrev main_call4_v7 : Ref sig .tc := ⟨.hbm, 207, rfl⟩
abbrev main_call4_v8 : Ref sig .tc := ⟨.hbm, 208, rfl⟩
abbrev main_call4_v9 : Ref sig .tc := ⟨.hbm, 209, rfl⟩
abbrev main_call4_v10 : Ref sig .tc := ⟨.hbm, 210, rfl⟩
abbrev main_call4_v11 : Ref sig .tc := ⟨.hbm, 211, rfl⟩
abbrev main_call4_c_3 : Ref sig .tc := ⟨.hbm, 212, rfl⟩
abbrev main_call4_v12 : Ref sig .tc := ⟨.hbm, 213, rfl⟩
abbrev main_call4_v13 : Ref sig .tc := ⟨.hbm, 214, rfl⟩
abbrev main_call4_v14 : Ref sig .tc := ⟨.hbm, 215, rfl⟩
abbrev main_call4_cst : Ref sig .tc := ⟨.hbm, 216, rfl⟩
abbrev main_call4_v15 : Ref sig .tc := ⟨.hbm, 217, rfl⟩
abbrev main_v141 : Ref sig .tc := ⟨.hbm, 218, rfl⟩
abbrev main_cst_15 : Ref sig .tc := ⟨.hbm, 219, rfl⟩
abbrev main_v142 : Ref sig .tc := ⟨.hbm, 220, rfl⟩
abbrev main_v143 : Ref sig .tc := ⟨.hbm, 221, rfl⟩
abbrev main_cst_16 : Ref sig .tc := ⟨.hbm, 222, rfl⟩
abbrev main_v144 : Ref sig .tc := ⟨.hbm, 223, rfl⟩
abbrev main_v145 : Ref sig .tc := ⟨.hbm, 224, rfl⟩
abbrev main_cst_17 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_18 : Ref sig .tc := ⟨.hbm, 234, rfl⟩
abbrev main_v154 : Ref sig .tc := ⟨.hbm, 235, rfl⟩
abbrev main_v155 : Ref sig .tc := ⟨.hbm, 236, rfl⟩
abbrev main_cst_19 : Ref sig .tc := ⟨.hbm, 237, rfl⟩
abbrev main_v156 : Ref sig .tc := ⟨.hbm, 238, rfl⟩
abbrev main_v157 : Ref sig .tc := ⟨.hbm, 239, rfl⟩
abbrev main_c_20 : Ref sig .tc := ⟨.hbm, 240, rfl⟩
abbrev main_call6_cst : Ref sig .tc := ⟨.hbm, 241, rfl⟩
abbrev main_call6_v0 : Ref sig .tc := ⟨.hbm, 242, rfl⟩
abbrev main_call6_v1 : Ref sig .tc := ⟨.hbm, 243, rfl⟩
abbrev main_call6_cst_0 : Ref sig .tc := ⟨.hbm, 244, rfl⟩
abbrev main_call6_v2 : Ref sig .tc := ⟨.hbm, 245, rfl⟩
abbrev main_call6_v3 : Ref sig .tc := ⟨.hbm, 246, rfl⟩
abbrev main_call6_v4 : Ref sig .tc := ⟨.hbm, 247, rfl⟩
abbrev main_call6_v5 : Ref sig .tc := ⟨.hbm, 248, rfl⟩
abbrev main_call6_v6 : Ref sig .tc := ⟨.hbm, 249, rfl⟩
abbrev main_call6_v7 : Ref sig .tc := ⟨.hbm, 250, rfl⟩
abbrev main_call6_cst_1 : Ref sig .tc := ⟨.hbm, 251, rfl⟩
abbrev main_call6_v8 : Ref sig .tc := ⟨.hbm, 252, rfl⟩
abbrev main_call6_cst_2 : Ref sig .tc := ⟨.hbm, 253, rfl⟩
abbrev main_call6_v9 : Ref sig .tc := ⟨.hbm, 254, rfl⟩
abbrev main_call6_v10 : Ref sig .tc := ⟨.hbm, 255, rfl⟩
abbrev main_call6_v11 : Ref sig .tc := ⟨.hbm, 256, rfl⟩
abbrev main_call6_v12 : Ref sig .tc := ⟨.hbm, 257, rfl⟩
abbrev main_call6_cst_3 : Ref sig .tc := ⟨.hbm, 258, rfl⟩
abbrev main_call6_v13 : Ref sig .tc := ⟨.hbm, 259, rfl⟩
abbrev main_call6_cst_4 : Ref sig .tc := ⟨.hbm, 260, rfl⟩
abbrev main_call6_call0_v0 : Ref sig .tc := ⟨.hbm, 261, rfl⟩
abbrev main_call6_call0_v1 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_cst_21 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩

abbrev nD : Nat := 1
abbrev τ : Topo := Topo.v7x

variable {F : FTy → Type} [FloatOps F]
-- ==== Proof.Nearest.lean ====
/- The nearest entries of a row: the first smallest entry, found again and again in the row with the entries found so
   far replaced by plus infinity, and the stable sort of the row, give the same positions. -/
module

public import Idealize.ShloMosaic.Lib.SortPrefix
public import Idealize.ShloMosaic.PureOps.Ideal

@[expose] public section

noncomputable section

namespace Cert.Geo

open Idealize.ShloMosaic

/-- `a` is the first position at which the row is smallest. -/
def IsFirstMin (x : Fin 256 → EReal) (a : Fin 256) : Prop := (∀ j, x a ≤ x j) ∧ ∀ j, j < a → x a < x j

theorem exists_firstMin (x : Fin 256 → EReal) : ∃ a, IsFirstMin x a := by
  classical
  obtain ⟨b, hb⟩ := Finite.exists_min x
  have hne : (Finset.univ.filter fun a : Fin 256 => x a = x b).Nonempty := ⟨b, by simp⟩
  refine ⟨(Finset.univ.filter fun a : Fin 256 => x a = x b).min' hne, ?_, ?_⟩
  · have h := Finset.min'_mem _ hne
    simp only [Finset.mem_filter, Finset.mem_univ, true_and] at h
    intro j; rw [h]; exact hb j
  · intro j hj
    have h := Finset.min'_mem _ hne
    simp only [Finset.mem_filter, Finset.mem_univ, true_and] at h
    rw [h]
    refine lt_of_le_of_ne (hb j) fun e => ?_
    exact absurd (Finset.min'_le _ j (by simp [e])) (not_le.mpr hj)

/-- The first position at which the row is smallest. -/
def firstMin (x : Fin 256 → EReal) : Fin 256 := Classical.choose (exists_firstMin x)

theorem firstMin_spec (x : Fin 256 → EReal) : IsFirstMin x (firstMin x) := Classical.choose_spec (exists_firstMin x)

theorem IsFirstMin.eq {x : Fin 256 → EReal} {a b : Fin 256} (ha : IsFirstMin x a) (hb : IsFirstMin x b) : a = b := by
  rcases lt_trichotomy a b with h | h | h
  · exact absurd (hb.2 a h) (not_lt.mpr (ha.1 b))
  · exact h
  · exact absurd (ha.2 b h) (not_lt.mpr (hb.1 a))

theorem IsFirstMin.eq_firstMin {x : Fin 256 → EReal} {a : Fin 256} (ha : IsFirstMin x a) : a = firstMin x :=
  ha.eq (firstMin_spec x)

/-- The row with its first smallest entry replaced by plus infinity. -/
def strike (x : Fin 256 → EReal) : Fin 256 → EReal := fun j => if j = firstMin x then ⊤ else x j

/-- The row after `n` strikes. -/
def struck (x : Fin 256 → EReal) : ℕ → Fin 256 → EReal
  | 0 => x
  | n + 1 => strike (struck x n)

/-- The position of the row's entry of rank `n`, counted from the smallest. -/
def nearest (x : Fin 256 → EReal) (n : ℕ) : Fin 256 := firstMin (struck x n)

theorem struck_of_not_mem (x : Fin 256 → EReal) (j : Fin 256) (n : ℕ) (h : ∀ m < n, nearest x m ≠ j) :
    struck x n j = x j := by
  induction n with
  | zero => rfl
  | succ n ih =>
    show (if j = nearest x n then ⊤ else struck x n j) = x j
    rw [if_neg fun e => h n (Nat.lt_succ_self n) e.symm]
    exact ih fun m hm => h m (Nat.lt_succ_of_lt hm)

theorem struck_of_mem (x : Fin 256 → EReal) (j : Fin 256) (n m : ℕ) (hm : m < n) (h : nearest x m = j) :
    struck x n j = ⊤ := by
  induction n with
  | zero => exact absurd hm (Nat.not_lt_zero m)
  | succ n ih =>
    show (if j = nearest x n then ⊤ else struck x n j) = ⊤
    by_cases e : j = nearest x n
    · rw [if_pos e]
    · rw [if_neg e]
      refine ih (lt_of_le_of_ne (Nat.lt_succ_iff.mp hm) fun e' => e ?_)
      rw [← h, e']

/-- Fewer strikes than entries leave an entry that was not struck. -/
theorem exists_unstruck (x : Fin 256 → EReal) (n : ℕ) (hn : n < 256) : ∃ j, ∀ m < n, nearest x m ≠ j := by
  classical
  by_contra hc
  simp only [not_exists, not_forall, not_not] at hc
  have hsub : (Finset.univ : Finset (Fin 256)) ⊆ (Finset.range n).image (nearest x) := fun j _ => by
    obtain ⟨m, hm, e⟩ := hc j
    exact Finset.mem_image.mpr ⟨m, Finset.mem_range.mpr hm, e⟩
  have h1 := Finset.card_le_card hsub
  have h2 := (Finset.card_image_le (s := Finset.range n) (f := nearest x))
  rw [Finset.card_univ, Fintype.card_fin] at h1
  rw [Finset.card_range] at h2
  omega

/-- In a row of entries below plus infinity no position is found twice. -/
theorem nearest_ne (x : Fin 256 → EReal) (hx : ∀ j, x j < ⊤) (n : ℕ) (hn : n < 256) (m : ℕ) (hm : m < n) :
    nearest x m ≠ nearest x n := by
  intro e
  obtain ⟨j, hj⟩ := exists_unstruck x n hn
  have h1 := (firstMin_spec (struck x n)).1 j
  rw [struck_of_not_mem x j n hj, show firstMin (struck x n) = nearest x n from rfl,
    struck_of_mem x (nearest x n) n m hm e] at h1
  exact absurd (hx j) (not_lt.mpr h1)

/-- An entry not found among the first `n` is no smaller than the one found next, and larger if it lies before it. -/
theorem nearest_le (x : Fin 256 → EReal) (hx : ∀ j, x j < ⊤) (n : ℕ) (hn : n < 256) (p : Fin 256)
    (hp : ∀ m < n, nearest x m ≠ p) :
    x (nearest x n) ≤ x p ∧ (p < nearest x n → x (nearest x n) < x p) := by
  have h := firstMin_spec (struck x n)
  have e1 := struck_of_not_mem x p n hp
  have e2 := struck_of_not_mem x (nearest x n) n fun m hm => nearest_ne x hx n hn m hm
  have e3 : firstMin (struck x n) = nearest x n := rfl
  rw [← e1, ← e2]
  exact ⟨h.1 p, h.2 p⟩

/-- Sorting increasing positions by a key with ties left in place is sorting them by the key and then the position. -/
theorem stableSort_key_then_position {n : ℕ} (R S : Fin n → Fin n → Bool) (l : List (Fin n)) (hl : l.Pairwise (· < ·))
    (h : ∀ a b, a < b → R b a = S b a) : stableSort R l = stableSort S l := by
  induction l with
  | nil => rfl
  | cons a l ih =>
    rw [List.pairwise_cons] at hl
    unfold stableSort
    rw [ih hl.2]
    exact insertBefore_congr R S a _ fun b hb => h a b (hl.1 b ((perm_stableSort S l).mem_iff.mp hb))

/-- The sorted positions decide where each entry comes from. -/
theorem sortedFrom_eq_of_positions {n : ℕ} (R S : Fin n → Fin n → Bool) (h : sortPositions n R = sortPositions n S)
    (k : Fin n) : sortedFrom R k = sortedFrom S k := by
  unfold sortedFrom
  simp only [List.get_eq_getElem, Fin.val_cast]
  exact List.getElem_of_eq h _

/-- The first four positions of the stable sort of a row, smallest first, are the four nearest. -/
theorem sortedFrom_eq_nearest (x : Fin 256 → EReal) (hx : ∀ j, x j < ⊤) (R : Fin 256 → Fin 256 → Bool)
    (hR : ∀ a b, R a b = decide (x a < x b)) (i : Fin 4) :
    sortedFrom R (i.castLE (by decide)) = nearest x i.val := by
  classical
  have hB : StrictTotalBefore fun k k' : Fin 256 => decide (x k < x k') || (decide (x k = x k') && decide (k < k')) :=
    StrictTotalBefore.of_key_then_position (fun a b : EReal => decide (a < b)) x (fun a => by simp)
      (fun a b c h1 h2 => by simp only [decide_eq_true_eq] at *; exact lt_trans h1 h2)
      (fun a b => by simp only [decide_eq_true_eq]; exact lt_trichotomy a b)
  have hpos : sortPositions 256 R
      = sortPositions 256 fun k k' : Fin 256 => decide (x k < x k') || (decide (x k = x k') && decide (k < k')) :=
    stableSort_key_then_position _ _ _ (List.pairwise_lt_finRange 256) fun a b hab => by
      rw [hR, decide_eq_false (not_lt.mpr hab.le), Bool.and_false, Bool.or_false]
  have hfrom : sortedFrom R (i.castLE (by decide))
      = sortedFrom (fun k k' : Fin 256 => decide (x k < x k') || (decide (x k = x k') && decide (k < k')))
          (i.castLE (by decide)) := sortedFrom_eq_of_positions R _ hpos _
  rw [hfrom]
  have hlt : ∀ k : Fin 4, k.val < 256 := fun k => lt_trans k.isLt (by decide)
  have key : ∀ (i : Fin 4) (p : Fin 256), (∀ m < i.val, nearest x m ≠ p) →
      (decide (x p < x (nearest x i.val)) || (decide (x p = x (nearest x i.val)) && decide (p < nearest x i.val))) = false := by
    intro i p hp
    obtain ⟨h1, h2⟩ := nearest_le x hx i.val (hlt i) p hp
    rw [decide_eq_false (not_lt.mpr h1), Bool.false_or]
    by_cases hp' : p < nearest x i.val
    · rw [decide_eq_false (ne_of_gt (h2 hp')), Bool.false_and]
    · rw [decide_eq_false hp', Bool.and_false]
  refine hB.sortedFrom_eq_of_prefix (by decide) (fun k : Fin 4 => nearest x k.val) ?_ ?_ ?_ i
  · intro a b hab
    rcases lt_trichotomy a b with h | h | h
    · exact absurd hab (nearest_ne x hx b.val (hlt b) a.val h)
    · exact h
    · exact absurd hab.symm (nearest_ne x hx a.val (hlt a) b.val h)
  · intro a b hab
    exact key a _ fun m hm => nearest_ne x hx b.val (hlt b) m (lt_trans hm hab)
  · intro a p hp
    exact key a p fun m hm => hp ⟨m, lt_trans hm a.isLt⟩

end Cert.Geo

end
-- ==== Proof.Consts.lean ====
/- The float constants of the two programs as extended reals. -/
module

public import Idealize.ShloMosaic.PureOps.Ideal.Laws

@[expose] public section

noncomputable section

namespace Cert.Geo

open Idealize.ShloMosaic

theorem word_zero : Ideal.ofBits .f32 0x00000000#32 = 0 := Ideal.ofBits_zero_f32

theorem word_two : Ideal.ofBits .f32 0x40000000#32 = ((2 : ℝ) : EReal) := by
  simp [Ideal.ofBits, Ideal.ieee, -EReal.coe_mul]; norm_num

/-- Degrees in a radian. -/
theorem word_degrees : Ideal.ofBits .f32 0x42652EE1#32 = ((15019745 / 262144 : ℝ) : EReal) := by
  simp [Ideal.ofBits, Ideal.ieee, -EReal.coe_mul]; norm_num

/-- The half turn, in radians. -/
theorem word_half_turn : Ideal.ofBits .f32 0x40490FDB#32 = ((13176795 / 4194304 : ℝ) : EReal) := by
  simp [Ideal.ofBits, Ideal.ieee, -EReal.coe_mul]; norm_num

/-- The kernel's step of the frequencies' exponents. -/
theorem word_step_kernel : Ideal.ofBits .f32 0xBD935D8E#32 = ((-(9657742 / 134217728) : ℝ) : EReal) := by
  simp [Ideal.ofBits, Ideal.ieee, -EReal.coe_mul]; norm_num

/-- The reference's step, half the kernel's: it multiplies twice the frequency's number. -/
theorem word_step_reference : Ideal.ofBits .f32 0xBD135D8E#32 = ((-(9657742 / 268435456) : ℝ) : EReal) := by
  simp [Ideal.ofBits, Ideal.ieee, -EReal.coe_mul]; norm_num

theorem word_fifteen : Ideal.ofBits .f32 0x41700000#32 = ((15 : ℝ) : EReal) := by
  simp [Ideal.ofBits, Ideal.ieee, -EReal.coe_mul]; norm_num

theorem word_width : Ideal.ofBits .f32 0x43800000#32 = ((256 : ℝ) : EReal) := by
  simp [Ideal.ofBits, Ideal.ieee, -EReal.coe_mul]; norm_num

/-- What the normalisation adds to the variance. -/
theorem word_eps : Ideal.ofBits .f32 0x3727C5AC#32 = ((10995116 / 1099511627776 : ℝ) : EReal) := by
  simp [Ideal.ofBits, Ideal.ieee, -EReal.coe_mul]; norm_num

theorem word_top : Ideal.ofBits .f32 0x7F800000#32 = ⊤ := by
  simp [Ideal.ofBits, Ideal.ieee]

theorem word_bot : Ideal.ofBits .f32 0xFF800000#32 = ⊥ := by
  simp [Ideal.ofBits, Ideal.ieee]

end Cert.Geo

end
-- ==== Proof.Angle.lean ====
/- The angle bins: the angle of a point in the upper half plane, in whole degrees, is a whole number from 0 to 180; the
   half turn's is 180 and the origin's is 0. -/
module

public import proofs.«01_k».proof.Proof.Consts

@[expose] public section

noncomputable section

namespace Cert.Geo

open Idealize.ShloMosaic

/-- An angle in radians rounded to whole degrees, as a word. -/
def degrees (a : EReal) : BitVec 32 :=
  Ideal.fptosi 32 (Ideal.liftRound Ideal.roundHalfEven (a * Ideal.ofBits .f32 0x42652EE1#32))

theorem degrees_coe (r : ℝ) : degrees (r : EReal)
    = BitVec.ofInt 32 (max (-2147483648) (min 2147483647 (Ideal.roundHalfEven (r * (15019745 / 262144))))) := by
  unfold degrees
  rw [word_degrees, ← EReal.coe_mul]
  show BitVec.ofInt 32 (Ideal.toIntClamped _ _ (((Ideal.roundHalfEven (r * (15019745 / 262144)) : ℤ) : ℝ) : EReal)) = _
  generalize Ideal.roundHalfEven (r * (15019745 / 262144)) = k
  show BitVec.ofInt 32 (max (-((2 ^ 31 : ℕ) : ℤ)) (min (((2 ^ 31 : ℕ) : ℤ) - 1) (if (0 : ℝ) ≤ (k : ℝ) then ⌊(k : ℝ)⌋ else ⌈(k : ℝ)⌉))) = _
  rw [Int.floor_intCast, Int.ceil_intCast, ite_self]
  norm_num

theorem roundHalfEven_bounds (t : ℝ) (h0 : 0 ≤ t) (h1 : t < 361 / 2) :
    0 ≤ Ideal.roundHalfEven t ∧ Ideal.roundHalfEven t ≤ 180 := by
  have hf0 : 0 ≤ ⌊t⌋ := Int.floor_nonneg.mpr h0
  have hf1 : ⌊t⌋ < 181 := Int.floor_lt.mpr (by push_cast; linarith)
  have hle : (⌊t⌋ : ℝ) ≤ t := Int.floor_le t
  have hcase : (180 : ℤ) ≤ ⌊t⌋ → t - ⌊t⌋ < 1 / 2 := fun h => by
    have : (180 : ℝ) ≤ (⌊t⌋ : ℝ) := by exact_mod_cast h
    linarith
  unfold Ideal.roundHalfEven
  dsimp only
  split
  · exact ⟨hf0, by omega⟩
  · rename_i hn
    have hlt : ⌊t⌋ < 180 := by
      by_contra hc
      exact hn (hcase (not_lt.mp hc))
    split
    · exact ⟨by omega, by omega⟩
    · split
      · exact ⟨hf0, by omega⟩
      · exact ⟨by omega, by omega⟩

/-- The half turn is below 3.15. -/
theorem pi_lt : Real.pi < 63 / 20 := by
  have h1 : Real.cos (63 / 160) ≤ 9238 / 10000 := by
    have h := Real.cos_bound (x := 63 / 160) (by rw [abs_of_pos (by norm_num)]; norm_num)
    rw [abs_of_pos (show (0 : ℝ) < 63 / 160 by norm_num)] at h
    have := (abs_le.mp h).2
    norm_num at this ⊢
    linarith
  have h0 : 0 ≤ Real.cos (63 / 160) := by
    have h := Real.cos_bound (x := 63 / 160) (by rw [abs_of_pos (by norm_num)]; norm_num)
    rw [abs_of_pos (show (0 : ℝ) < 63 / 160 by norm_num)] at h
    have := (abs_le.mp h).1
    norm_num at this ⊢
    linarith
  have h2 : Real.cos (63 / 80) ≤ 707 / 1000 := by
    rw [show (63 / 80 : ℝ) = 2 * (63 / 160) by norm_num, Real.cos_two_mul]
    nlinarith
  have h2' : 0 ≤ Real.cos (63 / 80) := by
    have h := Real.cos_bound (x := 63 / 80) (by rw [abs_of_pos (by norm_num)]; norm_num)
    rw [abs_of_pos (show (0 : ℝ) < 63 / 80 by norm_num)] at h
    have := (abs_le.mp h).1
    norm_num at this ⊢
    linarith
  have h3 : Real.cos (63 / 40) < 0 := by
    rw [show (63 / 40 : ℝ) = 2 * (63 / 80) by norm_num, Real.cos_two_mul]
    nlinarith
  by_contra hc
  have hpos := Real.cos_nonneg_of_neg_pi_div_two_le_of_le (x := 63 / 40) (by have := Real.pi_pos; linarith) (by linarith)
  linarith

/-- An angle from zero to a half turn has a bin from 0 to 180. -/
theorem degrees_of_le (r : ℝ) (h0 : 0 ≤ r) (h1 : r ≤ Real.pi) : ∃ n : ℕ, n ≤ 180 ∧ degrees (r : EReal) = BitVec.ofNat 32 n := by
  have hpi := pi_lt
  obtain ⟨b0, b1⟩ := roundHalfEven_bounds (r * (15019745 / 262144)) (by positivity) (by nlinarith)
  obtain ⟨n, hn⟩ := Int.eq_ofNat_of_zero_le b0
  refine ⟨n, by omega, ?_⟩
  rw [degrees_coe, hn, min_eq_right (by omega), max_eq_right (by omega)]
  exact BitVec.ofInt_natCast 32 n

theorem roundHalfEven_near (t : ℝ) (n : ℤ) (h0 : (n : ℝ) ≤ t) (h1 : t < n + 1 / 2) : Ideal.roundHalfEven t = n := by
  have hf : ⌊t⌋ = n := Int.floor_eq_iff.mpr ⟨h0, by linarith⟩
  unfold Ideal.roundHalfEven
  dsimp only
  rw [hf, if_pos (by linarith)]

/-- The half turn is 180 degrees. -/
theorem degrees_half_turn : degrees (Ideal.ofBits .f32 0x40490FDB#32) = 180#32 := by
  rw [word_half_turn, degrees_coe, roundHalfEven_near _ 180 (by norm_num) (by norm_num)]
  decide

/-- No angle is 0 degrees. -/
theorem degrees_zero : degrees 0 = 0#32 := by
  rw [← EReal.coe_zero, degrees_coe, roundHalfEven_near _ 0 (by norm_num) (by norm_num)]
  decide

/-- The angle of a point in the upper half plane lies from zero to a half turn. -/
theorem atan2_upper (y x : ℝ) (hy : 0 ≤ y) : ∃ r : ℝ, 0 ≤ r ∧ r ≤ Real.pi ∧ Ideal.atan2 (y : EReal) (x : EReal) = (r : EReal) := by
  have hpi := Real.pi_pos
  have hlo := Real.neg_pi_div_two_lt_arctan (y / x)
  have hhi := Real.arctan_lt_pi_div_two (y / x)
  refine ⟨_, ?_, ?_, rfl⟩
  · split
    · rename_i h
      exact Real.arctan_nonneg.mpr (div_nonneg hy h.le)
    · split
      · linarith
      · split
        · linarith
        · rw [if_neg (not_lt.mpr hy)]
  · split
    · linarith
    · split
      · rename_i h
        have : Real.arctan (y / x) ≤ 0 := by
          rw [← Real.arctan_zero]
          exact Real.arctan_strictMono.monotone (div_nonpos_of_nonneg_of_nonpos hy h.le)
        linarith
      · split
        · linarith
        · rw [if_neg (not_lt.mpr hy)]; exact hpi.le

theorem atan2_origin : Ideal.atan2 0 0 = 0 := by
  rw [← EReal.coe_zero]
  show ((_ : ℝ) : EReal) = _
  simp

/-- The bin of a point in the upper half plane. -/
theorem degrees_atan2 (y x : ℝ) (hy : 0 ≤ y) : ∃ n : ℕ, n ≤ 180 ∧ degrees (Ideal.atan2 (y : EReal) (x : EReal)) = BitVec.ofNat 32 n := by
  obtain ⟨r, h0, h1, e⟩ := atan2_upper y x hy
  rw [e]
  exact degrees_of_le r h0 h1

end Cert.Geo

end
-- ==== Proof.Spec.lean ====
/- What both programs compute, as plain functions of the arguments: distances, the three nearest neighbours of every
   point, the angle bins, the sinusoidal embeddings' linear maps, and the dense layer with its normalisation. -/
module

public import proofs.«01_k».proof.Proof.Nearest
public import proofs.«01_k».proof.Proof.Angle

@[expose] public section

noncomputable section

namespace Cert.Geo

open Idealize.ShloMosaic

/-! ## Distances, neighbours and bins -/

/-- The square of a point's length. -/
def sq (p : Fin 256 → Fin 3 → EReal) (i : Fin 256) : EReal := p i 0 * p i 0 + p i 1 * p i 1 + p i 2 * p i 2

/-- The inner product of two vectors. -/
def inner (v a : Fin 3 → EReal) : EReal := v 0 * a 0 + v 1 * a 1 + v 2 * a 2

/-- The distance of two points, by their lengths and their inner product. -/
def dist (p : Fin 256 → Fin 3 → EReal) (i j : Fin 256) : EReal :=
  Ideal.sqrt (max ((sq p i + sq p j) - Ideal.ofBits .f32 0x40000000#32 * inner (p i) (p j)) 0)

/-- The length of the cross product of two vectors. -/
def crossLength (v a : Fin 3 → EReal) : EReal :=
  Ideal.sqrt ((v 1 * a 2 - v 2 * a 1) * (v 1 * a 2 - v 2 * a 1) + (v 2 * a 0 - v 0 * a 2) * (v 2 * a 0 - v 0 * a 2)
    + (v 0 * a 1 - v 1 * a 0) * (v 0 * a 1 - v 1 * a 0))

/-- The vector from a point to another. -/
def arm (p : Fin 256 → Fin 3 → EReal) (i j : Fin 256) : Fin 3 → EReal := fun a => p j a - p i a

/-- The vector from a point to its neighbour of rank `n`. -/
def side (p : Fin 256 → Fin 3 → EReal) (i : Fin 256) (n : ℕ) : Fin 3 → EReal := arm p i (nearest (dist p i) n)

/-- The angle between two vectors. -/
def angle (v a : Fin 3 → EReal) : EReal := Ideal.atan2 (crossLength v a) (inner v a)

open Classical in
/-- The bin of the angle at a point between its neighbour of rank `n` and another point; at the point itself the bin is
    180 when the neighbour's vector is negative in every component, else 0. -/
def bin (p : Fin 256 → Fin 3 → EReal) (n : ℕ) (i j : Fin 256) : BitVec 32 :=
  if i = j then (if side p i n 0 < 0 ∧ side p i n 1 < 0 ∧ side p i n 2 < 0 then 180#32 else 0#32)
  else degrees (angle (side p i n) (arm p i j))

/-- Every coordinate of every point is a real number. -/
def Finite (p : Fin 256 → Fin 3 → EReal) : Prop := ∃ q : Fin 256 → Fin 3 → ℝ, ∀ i a, p i a = (q i a : EReal)

theorem inner_coe (v a : Fin 3 → ℝ) : inner (fun x => (v x : EReal)) (fun x => (a x : EReal))
    = ((v 0 * a 0 + v 1 * a 1 + v 2 * a 2 : ℝ) : EReal) := by
  simp only [inner, ← EReal.coe_mul, ← EReal.coe_add]

theorem sqrt_coe_of_nonneg (r : ℝ) (h : 0 ≤ r) : Ideal.sqrt (r : EReal) = (Real.sqrt r : EReal) := by
  show (if r < 0 then ⊥ else (Real.sqrt r : EReal)) = _
  rw [if_neg (not_lt.mpr h)]

theorem crossLength_coe (v a : Fin 3 → ℝ) : ∃ y : ℝ, 0 ≤ y ∧ crossLength (fun x => (v x : EReal)) (fun x => (a x : EReal)) = (y : EReal) := by
  refine ⟨Real.sqrt ((v 1 * a 2 - v 2 * a 1) * (v 1 * a 2 - v 2 * a 1) + (v 2 * a 0 - v 0 * a 2) * (v 2 * a 0 - v 0 * a 2)
    + (v 0 * a 1 - v 1 * a 0) * (v 0 * a 1 - v 1 * a 0)), Real.sqrt_nonneg _, ?_⟩
  simp only [crossLength, ← EReal.coe_mul, ← EReal.coe_add, ← EReal.coe_sub]
  exact sqrt_coe_of_nonneg _ (add_nonneg (add_nonneg (mul_self_nonneg _) (mul_self_nonneg _)) (mul_self_nonneg _))

theorem dist_lt_top {p : Fin 256 → Fin 3 → EReal} (hp : Finite p) (i j : Fin 256) : dist p i j < ⊤ := by
  obtain ⟨q, hq⟩ := hp
  have e : dist p i j = ((Real.sqrt (max (((q i 0 * q i 0 + q i 1 * q i 1 + q i 2 * q i 2) + (q j 0 * q j 0 + q j 1 * q j 1 + q j 2 * q j 2))
      - 2 * (q i 0 * q j 0 + q i 1 * q j 1 + q i 2 * q j 2)) 0) : ℝ) : EReal) := by
    simp only [dist, sq, inner, word_two, hq, ← EReal.coe_mul, ← EReal.coe_add, ← EReal.coe_sub, ← EReal.coe_zero]
    rw [← EReal.coe_strictMono.monotone.map_max]
    exact sqrt_coe_of_nonneg _ (le_max_right _ _)
  rw [e]
  exact EReal.coe_lt_top _

theorem arm_coe {p : Fin 256 → Fin 3 → EReal} {q : Fin 256 → Fin 3 → ℝ} (hq : ∀ i a, p i a = (q i a : EReal)) (i j : Fin 256) :
    arm p i j = fun a => ((q j a - q i a : ℝ) : EReal) := by
  funext a
  simp only [arm, hq, ← EReal.coe_sub]

/-- Every bin is a whole number from 0 to 180. -/
theorem bin_le {p : Fin 256 → Fin 3 → EReal} (hp : Finite p) (n : ℕ) (i j : Fin 256) :
    ∃ b : ℕ, b ≤ 180 ∧ bin p n i j = BitVec.ofNat 32 b := by
  unfold bin
  split
  · split
    · exact ⟨180, le_refl _, rfl⟩
    · exact ⟨0, by decide, rfl⟩
  · obtain ⟨q, hq⟩ := hp
    unfold angle side
    rw [arm_coe hq, arm_coe hq, inner_coe (fun a => q _ a - q i a) (fun a => q j a - q i a)]
    obtain ⟨y, hy, e⟩ := crossLength_coe (fun a => q (nearest (dist p i) n) a - q i a) (fun a => q j a - q i a)
    rw [e]
    exact degrees_atan2 y _ hy

/-- Between any vector and the zero vector the angle is zero. -/
theorem angle_zero (v : Fin 3 → EReal) : angle v (fun _ => 0) = 0 := by
  have h : Ideal.sqrt 0 = 0 := by
    rw [← EReal.coe_zero, sqrt_coe_of_nonneg _ le_rfl, Real.sqrt_zero]
  simp only [angle, crossLength, inner, mul_zero, sub_zero, add_zero, h]
  exact atan2_origin

theorem arm_self {p : Fin 256 → Fin 3 → EReal} (hp : Finite p) (i : Fin 256) : arm p i i = fun _ => 0 := by
  obtain ⟨q, hq⟩ := hp
  rw [arm_coe hq]
  funext a
  rw [sub_self, EReal.coe_zero]

open Classical in
/-- The bin again, as an angle rounded: at the point itself the angle is a half turn when the neighbour's vector is
    negative in every component, else the angle with the zero vector. -/
theorem bin_eq_degrees {p : Fin 256 → Fin 3 → EReal} (hp : Finite p) (n : ℕ) (i j : Fin 256) :
    degrees (if i = j ∧ side p i n 0 < 0 ∧ side p i n 1 < 0 ∧ side p i n 2 < 0 then Ideal.ofBits .f32 0x40490FDB#32
      else angle (side p i n) (arm p i j)) = bin p n i j := by
  unfold bin
  by_cases h : i = j
  · subst h
    rw [if_pos rfl]
    by_cases h' : side p i n 0 < 0 ∧ side p i n 1 < 0 ∧ side p i n 2 < 0
    · rw [if_pos h', if_pos ⟨rfl, h'⟩, degrees_half_turn]
    · rw [if_neg h', if_neg fun c => h' c.2, arm_self hp, angle_zero, degrees_zero]
  · rw [if_neg h, if_neg fun c => h c.1]

/-! ## The embeddings -/

/-- A value times a frequency. -/
def wave (x : EReal) (t : ℕ) : EReal := x * Ideal.exp (((t : ℝ) : EReal) * Ideal.ofBits .f32 0xBD935D8E#32)

/-- The sinusoidal embedding: sines at the even places, cosines at the odd ones. -/
def emb (x : EReal) (k : ℕ) : EReal := if k % 2 = 0 then Ideal.sin (wave x (k / 2)) else Ideal.cos (wave x (k / 2))

/-- The embedding's linear map. -/
def lin (W : Fin 256 → Fin 256 → EReal) (b : Fin 256 → EReal) (x : EReal) (h : Fin 256) : EReal :=
  (∑ k : Fin 256, emb x k.val * W h k) + b h

/-- The place of the `k`-th entry when the sines come first and the cosines after them. -/
def place (k : Fin 256) : Fin 256 := if h : k.val < 128 then ⟨2 * k.val, by omega⟩ else ⟨2 * (k.val - 128) + 1, by omega⟩

/-- The embedding with the sines first. -/
def embHalves (x : EReal) (k : ℕ) : EReal := if k < 128 then Ideal.sin (wave x k) else Ideal.cos (wave x (k - 128))

theorem embHalves_eq (x : EReal) (k : Fin 256) : embHalves x k.val = emb x (place k).val := by
  unfold embHalves emb place
  split
  · rw [if_pos (by show 2 * k.val % 2 = 0; omega)]
    show _ = Ideal.sin (wave x (2 * k.val / 2))
    rw [Nat.mul_div_cancel_left _ (by decide)]
  · rw [if_neg (by show ¬ (2 * (k.val - 128) + 1) % 2 = 0; omega)]
    show _ = Ideal.cos (wave x ((2 * (k.val - 128) + 1) / 2))
    rw [show (2 * (k.val - 128) + 1) / 2 = k.val - 128 by omega]

theorem place_bijective : Function.Bijective place := by
  refine Finite.injective_iff_bijective.mp fun a b h => Fin.ext ?_
  have h' := congrArg Fin.val h
  unfold place at h'
  split at h' <;> split at h' <;> simp only at h' <;> omega

/-- The linear map, its sum taken with the sines first. -/
theorem lin_eq_halves (W : Fin 256 → Fin 256 → EReal) (b : Fin 256 → EReal) (x : EReal) (h : Fin 256) :
    (∑ k : Fin 256, embHalves x k.val * W h (place k)) + b h = lin W b x h := by
  unfold lin
  congr 1
  simp only [embHalves_eq]
  exact place_bijective.sum_comp fun k => emb x k.val * W h k

/-- The reference's frequency: twice the number times half the step. -/
theorem wave_of_double (x : EReal) (t : ℕ) :
    x * Ideal.exp (((2 * t : ℕ) : ℝ) * Ideal.ofBits .f32 0xBD135D8E#32) = wave x t := by
  unfold wave
  rw [word_step_kernel, word_step_reference, ← EReal.coe_mul, ← EReal.coe_mul]
  congr 3
  push_cast
  ring

/-- A whole number of fifteenths. -/
def fifteenths (r : ℕ) : EReal := ((r : ℝ) : EReal) * ((1 / 15 : ℝ) : EReal)

theorem div_fifteen (r : ℕ) : Ideal.div ((r : ℝ) : EReal) (Ideal.ofBits .f32 0x41700000#32) = fifteenths r := by
  unfold Ideal.div fifteenths
  rw [word_fifteen, if_neg (by rw [← EReal.coe_zero, EReal.coe_eq_coe_iff]; norm_num), ← EReal.coe_inv, one_div]

/-! ## The dense layer -/

/-- The leaky rectifier. -/
def leaky (z : EReal) : EReal := if 0 < z then z else Ideal.ofBits .f32 0x3E4CCCCD#32 * z

/-- The mean of a row. -/
def mean (o : Fin 256 → EReal) : EReal := Ideal.div (∑ k, o k) (Ideal.ofBits .f32 0x43800000#32)

/-- The variance of a row. -/
def variance (o : Fin 256 → EReal) : EReal :=
  Ideal.div (∑ k, (o k - mean o) * (o k - mean o)) (Ideal.ofBits .f32 0x43800000#32)

/-- The normalised row, scaled and shifted. -/
def normalise (o : Fin 256 → EReal) (g b : Fin 256 → EReal) (h : Fin 256) : EReal :=
  (o h - mean o) * Ideal.rsqrt (variance o + Ideal.ofBits .f32 0x3727C5AC#32) * g h + b h

theorem mul_self_nonneg' (x : EReal) : 0 ≤ x * x := by
  rcases le_total 0 x with h | h
  · exact EReal.mul_nonneg_iff.mpr (Or.inl ⟨h, h⟩)
  · exact EReal.mul_nonneg_iff.mpr (Or.inr ⟨h, h⟩)

theorem variance_nonneg (o : Fin 256 → EReal) : 0 ≤ variance o := by
  unfold variance Ideal.div
  rw [word_width, if_neg (by rw [← EReal.coe_zero, EReal.coe_eq_coe_iff]; norm_num), ← EReal.coe_inv]
  exact EReal.mul_nonneg_iff.mpr (Or.inl ⟨Finset.sum_nonneg fun k _ => mul_self_nonneg' _, by
    rw [← EReal.coe_zero, EReal.coe_le_coe_iff]; norm_num⟩)

/-- Dividing by the root of a positive number is multiplying by its inverse root. -/
theorem div_sqrt (x v : EReal) (hv : 0 ≤ v) :
    Ideal.div x (Ideal.sqrt (v + Ideal.ofBits .f32 0x3727C5AC#32)) = x * Ideal.rsqrt (v + Ideal.ofBits .f32 0x3727C5AC#32) := by
  rw [word_eps]
  induction v with
  | bot => exact absurd hv (by simp)
  | top =>
    rw [EReal.top_add_coe]
    show Ideal.div x ⊤ = x * 0
    unfold Ideal.div
    rw [if_neg (by simp), EReal.inv_top]
  | coe v =>
    have h0 : 0 ≤ v := by exact_mod_cast hv
    rw [← EReal.coe_add]
    have hr : 0 < v + 10995116 / 1099511627776 := by positivity
    generalize v + 10995116 / 1099511627776 = r at hr ⊢
    have hs := Real.sqrt_pos.mpr hr
    rw [sqrt_coe_of_nonneg r hr.le, show Ideal.rsqrt (r : EReal) = (((Real.sqrt r)⁻¹ : ℝ) : EReal) from by
      show (if r < 0 then ⊥ else if r = 0 then ⊤ else (((Real.sqrt r)⁻¹ : ℝ) : EReal)) = _
      rw [if_neg (not_lt.mpr hr.le), if_neg hr.ne']]
    unfold Ideal.div
    rw [if_neg (by rw [← EReal.coe_zero, EReal.coe_eq_coe_iff]; exact hs.ne'), ← EReal.coe_inv]

/-- The row a pair of points gives before the normalisation, from the pair's scaled distance and three bins. -/
def mixed (Wd : Fin 256 → Fin 256 → EReal) (bd : Fin 256 → EReal) (Wa : Fin 256 → Fin 256 → EReal) (ba : Fin 256 → EReal)
    (d : EReal) (b₁ b₂ b₃ : ℕ) (h : Fin 256) : EReal :=
  lin Wd bd d h + max (max (lin Wa ba (fifteenths b₁) h) (lin Wa ba (fifteenths b₂) h)) (lin Wa ba (fifteenths b₃) h)

/-- The dense layer's row. -/
def dense (We : Fin 256 → Fin 256 → EReal) (be : Fin 256 → EReal) (z : Fin 256 → EReal) (h : Fin 256) : EReal :=
  (∑ k : Fin 256, leaky (z k) * We h k) + be h

/-- The whole result at a pair of points and a feature. -/
def whole (p : Fin 256 → Fin 3 → EReal) (Wd : Fin 256 → Fin 256 → EReal) (bd : Fin 256 → EReal)
    (Wa : Fin 256 → Fin 256 → EReal) (ba : Fin 256 → EReal) (We : Fin 256 → Fin 256 → EReal) (be g b : Fin 256 → EReal)
    (i j h : Fin 256) : EReal :=
  normalise (dense We be (mixed Wd bd Wa ba (Ideal.div (dist p i j) (Ideal.ofBits .f32 0x3E4CCCCD#32))
    (bin p 1 i j).toNat (bin p 2 i j).toNat (bin p 3 i j).toNat)) g b h

end Cert.Geo

end
-- ==== Proof.Args.lean ====
/- The arguments' arrays as functions of their coordinates. -/
module

public import Idealize.ShloMosaic.Lib.Pointwise
public import proofs.«01_k».proof.Proof.Spec

@[expose] public section

noncomputable section

namespace Cert.Geo

open Idealize.ShloMosaic

/-- The points' coordinates. -/
def pts (x : FVec Ideal ⟨3, ![1, 256, 3]⟩ .f32) (i : Fin 256) (a : Fin 3) : EReal := x (ix3 0 i a)

/-- A weight matrix's entries. -/
def mat (x : FVec Ideal ⟨2, ![256, 256]⟩ .f32) (h k : Fin 256) : EReal := x (ix2 h k)

/-- A vector's entries. -/
def vec (x : FVec Ideal ⟨1, ![256]⟩ .f32) (h : Fin 256) : EReal := x (ix1 h)

end Cert.Geo

end
-- ==== Proof.Words.lean ====
/- Words that hold small numbers: wrapping a negative index, masking an index out of range, a conjunction of masks. -/
module

public import Idealize.ShloMosaic.Lib.Pointwise
public import Idealize.ShloMosaic.Lib.StableHlo.Predicate
public import Idealize.ShloMosaic.PureOps.Reduce

@[expose] public section

namespace Cert.Geo

open Idealize.ShloMosaic

theorem toInt_small (w : ℕ) (h : w < 2 ^ 31) : (BitVec.ofNat 32 w).toInt = w := by
  have e : (BitVec.ofNat 32 w).toNat = w := by rw [BitVec.toNat_ofNat]; omega
  rw [BitVec.toInt_eq_toNat_of_lt (by rw [e]; omega), e]

theorem toNat_small (w : ℕ) (h : w < 2 ^ 31) : (BitVec.ofNat 32 w).toNat = w := by
  rw [BitVec.toNat_ofNat]; omega

theorem cmpi_slt_zero (w : ℕ) (h : w < 2 ^ 31) : IntOp.cmpi .slt (BitVec.ofNat 32 w) 0#32 = 0#1 := by
  show BitVec.ofBool ((BitVec.ofNat 32 w).slt 0#32) = 0#1
  have : (BitVec.ofNat 32 w).slt 0#32 = false := by
    rw [← Bool.not_eq_true, BitVec.slt_iff_toInt_lt, toInt_small w h]
    simp
  rw [this]
  rfl

theorem cmpi_sle_small (w b : ℕ) (h : w < 2 ^ 31) (hb : b < 2 ^ 31) :
    IntOp.cmpi .sle (BitVec.ofNat 32 w) (BitVec.ofNat 32 b) = BitVec.ofBool (decide (w ≤ b)) := by
  show BitVec.ofBool ((BitVec.ofNat 32 w).sle (BitVec.ofNat 32 b)) = _
  congr 1
  rw [Bool.eq_iff_iff, BitVec.sle_iff_toInt_le, toInt_small w h, toInt_small b hb]
  simp

theorem cmpi_sge_zero (w : ℕ) (h : w < 2 ^ 31) : IntOp.cmpi .sge (BitVec.ofNat 32 w) 0#32 = 1#1 := by
  show BitVec.ofBool ((0#32).sle (BitVec.ofNat 32 w)) = 1#1
  have : (0#32).sle (BitVec.ofNat 32 w) = true := by
    rw [BitVec.sle_iff_toInt_le, toInt_small w h]
    simp
  rw [this]
  rfl

/-- A small number is not wrapped. -/
theorem wrap_small (w : ℕ) (h : w < 2 ^ 31) (x : BitVec 32) :
    Scalar.select (IntOp.cmpi .slt (BitVec.ofNat 32 w) 0#32) x (BitVec.ofNat 32 w) = BitVec.ofNat 32 w := by
  rw [cmpi_slt_zero w h]
  exact if_neg (by decide)

/-- A number within its bound is in range. -/
theorem mask_small (w b : ℕ) (h : w ≤ b) (hb : b < 2 ^ 31) :
    IntOp.andi (IntOp.cmpi .sge (BitVec.ofNat 32 w) 0#32) (IntOp.cmpi .sle (BitVec.ofNat 32 w) (BitVec.ofNat 32 b)) = 1#1 := by
  rw [cmpi_sge_zero w (by omega), cmpi_sle_small w b (by omega) hb, decide_eq_true h]
  rfl

theorem foldl_andi_ones {ι : Type} (l : List ι) (x : ι → BitVec 1) (h : ∀ i, x i = 1#1) :
    l.foldl (fun r i => IntOp.andi r (x i)) 1#1 = 1#1 := by
  induction l with
  | nil => rfl
  | cons a l ih => rw [List.foldl_cons, h a]; exact ih

/-- A conjunction of masks that are all set is set. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones _ x hx

theorem cmpi_eq_small {n : ℕ} (hn : n ≤ 2 ^ 31) (a b : Fin n) :
    IntOp.cmpi .eq (BitVec.ofNat 32 a.val) (BitVec.ofNat 32 b.val) = BitVec.ofBool (decide (a = b)) := by
  show BitVec.ofBool (BitVec.ofNat 32 a.val == BitVec.ofNat 32 b.val) = _
  congr 1
  rw [Bool.eq_iff_iff, beq_iff_eq, decide_eq_true_iff]
  refine ⟨fun h => Fin.ext ?_, fun h => by rw [h]⟩
  have h' := congrArg BitVec.toNat h
  rwa [toNat_small _ (by omega), toNat_small _ (by omega)] at h'

theorem andi_ofBool (a b : Bool) : IntOp.andi (BitVec.ofBool a) (BitVec.ofBool b) = BitVec.ofBool (a && b) := by
  cases a <;> cases b <;> rfl

theorem select_ofBool {α : Type} (p : Prop) [d : Decidable p] (x y : α) :
    Scalar.select (BitVec.ofBool (decide p)) x y = if p then x else y := by
  by_cases h : p
  · rw [if_pos h, decide_eq_true h]; exact if_pos rfl
  · rw [if_neg h, decide_eq_false h]; exact if_neg (by decide)

end Cert.Geo
-- ==== Proof.RefGeom.lean ====
/- The reference's distances, neighbours and angle bins. -/
module

public import proofs.«01_k».proof.Proof.Gen.ReferenceIdeal.Read
public import proofs.«01_k».proof.Proof.Args
public import proofs.«01_k».proof.Proof.Words

@[expose] public section

noncomputable section

namespace Cert.RefValue

open Cert.ReferenceIdeal Cert.ReferenceIdeal.Gen Cert.ReferenceIdeal.Read Cert.Geo Idealize.ShloMosaic

variable (x0 : (⟨S1x256x3, .f32⟩ : BufTy).Contents (Elt Ideal))

theorem dot_value (i j : Fin 256) : val_main_v0 (F := Ideal) x0 (ix3 0 i j) = inner (pts x0 i) (pts x0 j) := by
  pointwise [val_main_v0, Fin.sum_univ_three]
  rfl

theorem square_value (i : Fin 256) : val_main_v2 (F := Ideal) x0 (ix2 0 i) = sq (pts x0) i := by
  pointwise [val_main_v2, val_main_cst, val_main_v1, Fin.sum_univ_three, zero_add]
  rfl

theorem distance_value (i j : Fin 256) : val_main_v13 (F := Ideal) x0 (ix3 0 i j) = dist (pts x0) i j := by
  have e1 := square_value x0 i
  have e2 := square_value x0 j
  pointwise [val_main_v13, val_main_v12, val_main_v11, val_main_cst_1, val_main_v10, val_main_v9, val_main_v8, val_main_cst_0,
    val_main_v7, val_main_v6, val_main_v5, val_main_v4, val_main_v3, e1, e2, dot_value]
  rfl

theorem scaled_value (i j : Fin 256) : val_main_v15 (F := Ideal) x0 (ix3 0 i j)
    = Ideal.div (dist (pts x0) i j) (Ideal.ofBits .f32 0x3E4CCCCD#32) := by
  rw [← distance_value]
  pointwise [val_main_v15, val_main_v14, val_main_cst_2]

/-! ## The neighbours -/

theorem cmp_gt (x y : EReal) : (Ideal.cmp .ogt (-x) (-y) == 1#1) = decide (x < y) := by
  unfold Ideal.cmp
  by_cases h : x < y
  · simp [h]
  · simp [h]

theorem along_last {N : ℕ} (i n k : Fin N) :
    (ix3 (0 : Fin 1) i n : (⟨3, ![1, N, N]⟩ : Shape).Idx).along 2 k = ix3 0 i k := by
  funext a
  match a with
  | ⟨0, _⟩ => rfl
  | ⟨1, _⟩ => rfl
  | ⟨2, _⟩ => rfl

/-- The words of the positions a row's four greatest come from: the stable sort's. -/
theorem topK_positions {N : ℕ} (hN : 4 ≤ N) (gt : EReal → EReal → BitVec 1) (y : (⟨3, ![1, N, N]⟩ : Shape).Idx → EReal)
    (hf : (⟨3, ![1, N, N]⟩ : Shape).Slices (fun _ => 0) ⟨3, ![1, N, 4]⟩) (i : Fin N) (n : Fin 4) :
    (Host.topK ⟨3, ![1, N, 4]⟩ 2 gt y hf).2 (ix3 0 i n)
      = BitVec.ofNat 32 (sortedFrom (fun k k' : Fin N => gt (y (ix3 0 i k)) (y (ix3 0 i k')) == 1#1) (n.castLE hN)).val := by
  have h : 2 < (⟨3, ![1, N, N]⟩ : Shape).rank := by show 2 < 3; decide
  simp only [Host.topK, Host.sort2, dif_pos h]
  rw [extractStridedSlice_apply (fun _ => 0) _ _ _ (ix3 (0 : Fin 1) i (n.castLE hN) : (⟨3, ![1, N, N]⟩ : Shape).Idx) (fun a => match a with
    | ⟨0, _⟩ => rfl
    | ⟨1, _⟩ => by show i.val = 0 + i.val; omega
    | ⟨2, _⟩ => by show n.val = 0 + n.val; omega)]
  have e : ∀ k : Fin N, (ix3 (0 : Fin 1) i (n.castLE hN) : (⟨3, ![1, N, N]⟩ : Shape).Idx).along ⟨2, h⟩ k = ix3 0 i k :=
    fun k => along_last i _ k
  show BitVec.ofNat 32 (((ix3 (0 : Fin 1) i (n.castLE hN) : (⟨3, ![1, N, N]⟩ : Shape).Idx).along ⟨2, h⟩ (sortedFrom (fun k k' : Fin N =>
    gt (y ((ix3 (0 : Fin 1) i (n.castLE hN) : (⟨3, ![1, N, N]⟩ : Shape).Idx).along ⟨2, h⟩ k))
      (y ((ix3 (0 : Fin 1) i (n.castLE hN) : (⟨3, ![1, N, N]⟩ : Shape).Idx).along ⟨2, h⟩ k')) == 1#1) (n.castLE hN))) 2).val = _
  simp only [e]
  exact congrArg (fun q : (⟨3, ![1, N, N]⟩ : Shape).Idx => BitVec.ofNat 32 (q 2).val) (e _)

theorem negated_value (i j : Fin 256) : val_main_v16 (F := Ideal) x0 (ix3 0 i j) = -dist (pts x0) i j := by
  rw [← distance_value]
  pointwise [val_main_v16]

/-- The sorted positions' words: at rank `n` the word of the `n`-th nearest. -/
theorem indices_value (hp : Finite (pts x0)) (i : Fin 256) (n : Fin 4) :
    val_main_indices (F := Ideal) x0 (ix3 0 i n) = BitVec.ofNat 32 (nearest (dist (pts x0) i) n.val).val := by
  refine (topK_positions (by decide) _ _ _ i n).trans ?_
  rw [sortedFrom_eq_nearest (dist (pts x0) i) (fun j => dist_lt_top hp i j)]
  intro a b
  rw [negated_value, negated_value]
  exact cmp_gt _ _

/-! ## The neighbours' points -/

theorem rank_value (hp : Finite (pts x0)) (i : Fin 256) (n a : Fin 3) :
    val_main_v21 (F := Ideal) x0 (ix4 0 i n a) = BitVec.ofNat 32 (nearest (dist (pts x0) i) (n.val + 1)).val := by
  pointwise [val_main_v21, val_main_v20, val_main_v17]
  refine (indices_value x0 hp i ⟨1 + n.val, by omega⟩).trans ?_
  rw [show n.val + 1 = 1 + n.val from Nat.add_comm _ _]

theorem wrapped_value (hp : Finite (pts x0)) (i : Fin 256) (n a : Fin 3) :
    val_main_call0_v4 (F := Ideal) x0 (ix4 0 i n a) = BitVec.ofNat 32 (nearest (dist (pts x0) i) (n.val + 1)).val := by
  pointwise [val_main_call0_v4, val_main_call0_v1, val_main_call0_v0, val_main_call0_c, rank_value x0 hp]
  exact wrap_small _ (by have := (nearest (dist (pts x0) i) (n.val + 1)).isLt; omega) _

theorem start_value (hp : Finite (pts x0)) (i : Fin 256) (n a : Fin 3) :
    val_main_call0_v5 (F := Ideal) x0 (ix4 i n a 0) = BitVec.ofNat 32 (nearest (dist (pts x0) i) (n.val + 1)).val := by
  rw [← wrapped_value x0 hp i n a]
  unfold val_main_call0_v5
  generalize val_main_call0_v4 (F := Ideal) x0 = y
  refine shapeCast_apply y shapeCasts_S1x256x3x3_S256x3x3x1 (ix4 i n a 0) (ix4 0 i n a) ?_
  rw [Shape.rowMajor_val_four, Shape.rowMajor_val_four]
  show ((0 * 256 + i.val) * 3 + n.val) * 3 + a.val = ((i.val * 3 + n.val) * 3 + a.val) * 1 + 0
  omega

theorem inRange_value (hp : Finite (pts x0)) (q : S256x3x3x1.Idx) : val_main_call0_v11 (F := Ideal) x0 q = 1#1 := by
  rw [eq_ix4 q, show (q 3) = (0 : Fin 1) from Fin.ext (Nat.lt_one_iff.mp (q 3).isLt)]
  pointwise [val_main_call0_v11, val_main_call0_v7, val_main_call0_v10, val_main_call0_v6, val_main_call0_c_2, val_main_call0_v9,
    val_main_call0_v8, val_main_call0_c_1, start_value x0 hp]
  exact mask_small _ 255 (by have := (nearest (dist (pts x0) (q 0)) ((q 1).val + 1)).isLt; omega) (by decide)

/-- The dimension numbers of the neighbours' gather. -/
abbrev takeAlong : GatherDims S1x256x256x3 S256x3x3x1 S1x256x3x3 := gather_S1x256x256x3_S256x3x3x1_S1x256x3x3_0_2_13_02_2_3_1111

theorem gathered_value (hp : Finite (pts x0)) (i : Fin 256) (n a : Fin 3) :
    val_main_call0_v13 (F := Ideal) x0 (ix4 0 i n a) = pts x0 (nearest (dist (pts x0) i) (n.val + 1)) a := by
  have e : ∀ q : S1x256x256x3.Idx, val_main_v19 (F := Ideal) x0 q = pts x0 (q 2) (q 3) := fun q => by
    rw [eq_ix4 q]
    pointwise [val_main_v19, val_main_v18]
    rfl
  unfold val_main_call0_v13 Host.gather
  rw [e]
  have hn := (nearest (dist (pts x0) i) (n.val + 1)).isLt
  have hs := start_value x0 hp i n a
  generalize val_main_call0_v5 (F := Ideal) x0 = idx at hs ⊢
  generalize nearest (dist (pts x0) i) (n.val + 1) = r at hs hn ⊢
  refine congrArg₂ (pts x0) (Fin.ext ?_) (Fin.ext ?_)
  · show takeAlong.start (ix4 0 i n a) idx 2 + takeAlong.batchCoord (ix4 0 i n a) 2 + takeAlong.offCoord (ix4 0 i n a) 2 = r.val
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (2 : Fin 4) ∈ takeAlong.startIndexMap from List.mem_singleton.mpr rfl)]
    have hsi : takeAlong.siIdx (ix4 0 i n a) ⟨List.idxOf (2 : Fin 4) takeAlong.startIndexMap,
        List.idxOf_lt_length_iff.2 (List.mem_singleton.mpr rfl)⟩ = ix4 i n a 0 := by
      funext b
      match b with
      | ⟨0, _⟩ => rfl
      | ⟨1, _⟩ => rfl
      | ⟨2, _⟩ => rfl
      | ⟨3, _⟩ => rfl
    rw [hsi, hs, toInt_small _ (by omega)]
    show min (Int.toNat r.val) (256 - 1) + 0 + 0 = r.val
    rw [Int.toNat_natCast]
    omega
  · show takeAlong.start (ix4 0 i n a) idx 3 + takeAlong.batchCoord (ix4 0 i n a) 3 + takeAlong.offCoord (ix4 0 i n a) 3 = a.val
    rw [GatherDims.start_batching _ _ _ _ (by decide),
      GatherDims.offCoord_eq_zero _ _ _ (fun h => ((GatherDims.mem_sKept _ _).mp h).2 (by decide))]
    unfold GatherDims.batchCoord
    rw [dif_pos (by decide)]
    show 0 + a.val + 0 = a.val
    omega

theorem neighbour_value (hp : Finite (pts x0)) (i : Fin 256) (n a : Fin 3) :
    val_main_v22 (F := Ideal) x0 (ix4 0 i n a) = pts x0 (nearest (dist (pts x0) i) (n.val + 1)) a := by
  rw [val_main_v22_apply, val_main_call0_v14_apply, ← gathered_value x0 hp]
  unfold val_main_call0_v12
  rw [reduce_andi_ones _ _ _ _ _ (inRange_value x0 hp) rfl]
  exact if_pos rfl

/-! ## The vectors, the angles and the bins -/

theorem side_value (hp : Finite (pts x0)) (i j : Fin 256) (n a : Fin 3) :
    val_main_v32 (F := Ideal) x0 (ix5 0 i j n a) = side (pts x0) i (n.val + 1) a := by
  pointwise [val_main_v32, val_main_v31, val_main_v25, val_main_v24, val_main_v23, neighbour_value x0 hp]
  rfl

theorem arm_value (i j : Fin 256) (n a : Fin 3) :
    val_main_v34 (F := Ideal) x0 (ix5 0 i j n a) = arm (pts x0) i j a := by
  pointwise [val_main_v34, val_main_v33, val_main_v30, val_main_v29, val_main_v28, val_main_v27, val_main_v26]
  rfl

theorem cross_value (hp : Finite (pts x0)) (i j : Fin 256) (n : Fin 3) :
    val_main_v60 (F := Ideal) x0 (ix4 0 i j n) = crossLength (side (pts x0) i (n.val + 1)) (arm (pts x0) i j) := by
  have h0 : val_main_v36 (F := Ideal) x0 (ix4 0 i j n) = side (pts x0) i (n.val + 1) 0 := by
    rw [← side_value x0 hp i j n 0]
    pointwise [val_main_v36, val_main_v35]
  have h1 : val_main_v38 (F := Ideal) x0 (ix4 0 i j n) = side (pts x0) i (n.val + 1) 1 := by
    rw [← side_value x0 hp i j n 1]
    pointwise [val_main_v38, val_main_v37]
  have h2 : val_main_v40 (F := Ideal) x0 (ix4 0 i j n) = side (pts x0) i (n.val + 1) 2 := by
    rw [← side_value x0 hp i j n 2]
    pointwise [val_main_v40, val_main_v39]
  have h3 : val_main_v42 (F := Ideal) x0 (ix4 0 i j n) = arm (pts x0) i j 0 := by
    rw [← arm_value x0 i j n 0]
    pointwise [val_main_v42, val_main_v41]
  have h4 : val_main_v44 (F := Ideal) x0 (ix4 0 i j n) = arm (pts x0) i j 1 := by
    rw [← arm_value x0 i j n 1]
    pointwise [val_main_v44, val_main_v43]
  have h5 : val_main_v46 (F := Ideal) x0 (ix4 0 i j n) = arm (pts x0) i j 2 := by
    rw [← arm_value x0 i j n 2]
    pointwise [val_main_v46, val_main_v45]
  pointwise [val_main_v60, val_main_call1_v1, val_main_call1_v0, val_main_call1_cst, val_main_v59, Fin.sum_univ_three,
    val_main_v56, val_main_v57, val_main_v58, val_main_v49, val_main_v52, val_main_v55, val_main_v47, val_main_v48,
    val_main_v50, val_main_v51, val_main_v53, val_main_v54, h0, h1, h2, h3, h4, h5]
  rfl

theorem inner_value (hp : Finite (pts x0)) (i j : Fin 256) (n : Fin 3) :
    val_main_v62 (F := Ideal) x0 (ix4 0 i j n) = inner (side (pts x0) i (n.val + 1)) (arm (pts x0) i j) := by
  pointwise [val_main_v62, val_main_cst_3, val_main_v61, Fin.sum_univ_three, side_value x0 hp, arm_value]
  rfl

theorem eye_value (i j : Fin 256) (n : Fin 3) :
    val_main_v80 (F := Ideal) (ix4 0 i j n) = BitVec.ofBool (decide (i = j)) := by
  pointwise [val_main_v80, val_main_v71, val_main_v70, val_main_v69, val_main_v68, val_main_v67, val_main_v66, val_main_v65, val_main_v64]
  exact cmpi_eq_small (by decide) i j

theorem opposite_value (hp : Finite (pts x0)) (i j : Fin 256) (n : Fin 3) :
    val_main_v79 (F := Ideal) x0 (ix4 0 i j n) = IntOp.andi (IntOp.andi (Ideal.cmp .olt (side (pts x0) i (n.val + 1) 0) 0)
      (Ideal.cmp .olt (side (pts x0) i (n.val + 1) 1) 0)) (Ideal.cmp .olt (side (pts x0) i (n.val + 1) 2) 0) := by
  have h0 : val_main_v36 (F := Ideal) x0 (ix4 0 i j n) = side (pts x0) i (n.val + 1) 0 := by
    rw [← side_value x0 hp i j n 0]
    pointwise [val_main_v36, val_main_v35]
  have h1 : val_main_v38 (F := Ideal) x0 (ix4 0 i j n) = side (pts x0) i (n.val + 1) 1 := by
    rw [← side_value x0 hp i j n 1]
    pointwise [val_main_v38, val_main_v37]
  have h2 : val_main_v40 (F := Ideal) x0 (ix4 0 i j n) = side (pts x0) i (n.val + 1) 2 := by
    rw [← side_value x0 hp i j n 2]
    pointwise [val_main_v40, val_main_v39]
  pointwise [val_main_v79, val_main_v78, val_main_v77, val_main_cst_6, val_main_v76, val_main_v75, val_main_v74, val_main_cst_5,
    val_main_v73, val_main_v72, val_main_cst_4, h0, h1, h2]

theorem bin_value (hp : Finite (pts x0)) (i j : Fin 256) (n : Fin 3) :
    val_main_v86 (F := Ideal) x0 (ix4 0 i j n) = bin (pts x0) (n.val + 1) i j := by
  rw [← bin_eq_degrees hp]
  pointwise [val_main_v86, val_main_v85, val_main_v84, val_main_v83, val_main_cst_8, val_main_v82, val_main_call2_v1, val_main_call2_v0,
    val_main_cst_7, val_main_v81, val_main_v63, cross_value x0 hp, inner_value x0 hp, eye_value, opposite_value x0 hp]
  simp only [andi_ofBool, ← Bool.decide_and, select_ofBool, and_assoc]
  unfold degrees
  congr!

end Cert.RefValue

end
-- ==== Proof.RefDense.lean ====
/- The reference's embeddings, dense layer and normalisation. -/
module

public import proofs.«01_k».proof.Proof.RefGeom

@[expose] public section

noncomputable section

namespace Cert.RefValue

open Cert.ReferenceIdeal Cert.ReferenceIdeal.Gen Cert.ReferenceIdeal.Read Cert.Geo Idealize.ShloMosaic

variable (x0 : (⟨S1x256x3, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 x7 x8 : (⟨S256, .f32⟩ : BufTy).Contents (Elt Ideal))

/-! ## The frequencies -/

theorem even_word (t : Fin 128) : IntOp.addi 0#32 (IntOp.muli 2#32 (BitVec.ofNat 32 t.val)) = BitVec.ofNat 32 (2 * t.val) := by
  show (0#32 + 2#32 * BitVec.ofNat 32 t.val : BitVec 32) = _
  apply BitVec.eq_of_toNat_eq
  have := t.isLt
  simp [BitVec.toNat_add, BitVec.toNat_mul]

theorem real_of_word (w : ℕ) (h : w < 2 ^ 31) : ((((BitVec.ofNat 32 w).toInt : ℤ) : ℝ) : EReal) = ((w : ℝ) : EReal) := by
  rw [toInt_small w h]
  rfl

theorem frequency_value (t : Fin 128) : val_main_v95 (F := Ideal) (ix1 t)
    = Ideal.exp (((2 * t.val : ℕ) : ℝ) * Ideal.ofBits .f32 0xBD135D8E#32) := by
  pointwise [val_main_v95, val_main_v94, val_main_v93, val_main_cst_10, val_main_v92, val_main_v91, val_main_v90, val_main_c_9,
    val_main_v89, val_main_v88, val_main_c, val_main_v87, even_word]
  have := t.isLt
  rw [← real_of_word (2 * t.val) (by omega)]
  rfl

theorem angular_frequency_value (t : Fin 128) : val_main_v124 (F := Ideal) (ix1 t)
    = Ideal.exp (((2 * t.val : ℕ) : ℝ) * Ideal.ofBits .f32 0xBD135D8E#32) := frequency_value t

/-! ## The distances' part -/

theorem waves_value (i j : Fin 256) (t : Fin 128) : val_main_v100 (F := Ideal) x0 (ix4 0 i j t)
    = wave (Ideal.div (dist (pts x0) i j) (Ideal.ofBits .f32 0x3E4CCCCD#32)) t.val := by
  rw [← wave_of_double]
  pointwise [val_main_v100, val_main_v99, val_main_v98, val_main_v97, val_main_v96, scaled_value x0, frequency_value]

theorem pair_value (i j : Fin 256) (t : Fin 128) (u : Fin 2) : val_main_v105 (F := Ideal) x0 (ix5 0 i j t u)
    = emb (Ideal.div (dist (pts x0) i j) (Ideal.ofBits .f32 0x3E4CCCCD#32)) (2 * t.val + u.val) := by
  unfold emb
  match u with
  | ⟨0, _⟩ =>
    rw [if_pos (by show (2 * t.val + 0) % 2 = 0; omega)]
    show _ = Ideal.sin (wave _ ((2 * t.val + 0) / 2))
    rw [show (2 * t.val + 0) / 2 = t.val by omega]
    pointwise [val_main_v105, val_main_v103, val_main_v101, waves_value x0]
  | ⟨1, _⟩ =>
    rw [if_neg (by show ¬ (2 * t.val + 1) % 2 = 0; omega)]
    show _ = Ideal.cos (wave _ ((2 * t.val + 1) / 2))
    rw [show (2 * t.val + 1) / 2 = t.val by omega]
    pointwise [val_main_v105, val_main_v104, val_main_v102, waves_value x0]

theorem embedding_value (i j k : Fin 256) : val_main_v106 (F := Ideal) x0 (ix4 0 i j k)
    = emb (Ideal.div (dist (pts x0) i j) (Ideal.ofBits .f32 0x3E4CCCCD#32)) k.val := by
  have h := pair_value x0 i j ⟨k.val / 2, by omega⟩ ⟨k.val % 2, by omega⟩
  rw [show 2 * (k.val / 2) + k.val % 2 = k.val by omega] at h
  rw [← h]
  unfold val_main_v106
  generalize val_main_v105 (F := Ideal) x0 = y
  refine shapeCast_apply y shapeCasts_S1x256x256x128x2_S1x256x256x256 (ix4 0 i j k) (ix5 0 i j ⟨k.val / 2, by omega⟩ ⟨k.val % 2, by omega⟩) ?_
  rw [Shape.rowMajor_val_four, Shape.rowMajor_val_five]
  show (((0 * 256 + i.val) * 256 + j.val) * 128 + k.val / 2) * 2 + k.val % 2 = ((0 * 256 + i.val) * 256 + j.val) * 256 + k.val
  omega

theorem distance_part (i j h : Fin 256) : val_main_v111 (F := Ideal) x0 x1 x2 (ix4 0 i j h)
    = lin (mat x1) (vec x2) (Ideal.div (dist (pts x0) i j) (Ideal.ofBits .f32 0x3E4CCCCD#32)) h := by
  unfold lin
  pointwise [val_main_v111, val_main_v110, val_main_v109, val_main_v108, val_main_v107, embedding_value x0]
  rfl

/-! ## The angles' table -/

theorem angular_waves_value (r : Fin 181) (t : Fin 128) : val_main_v129 (F := Ideal) (ix2 r t) = wave (fifteenths r.val) t.val := by
  have e : val_main_v115 (F := Ideal) (ix1 r) = fifteenths r.val := by
    rw [← div_fifteen]
    pointwise [val_main_v115, val_main_v114, val_main_cst_11, val_main_v113, val_main_v112]
    rw [← real_of_word r.val (by omega)]
    rfl
  rw [← wave_of_double]
  pointwise [val_main_v129, val_main_v128, val_main_v127, val_main_v126, val_main_v125, e, angular_frequency_value]

theorem angular_pair_value (r : Fin 181) (t : Fin 128) (u : Fin 2) : val_main_v134 (F := Ideal) (ix3 r t u)
    = emb (fifteenths r.val) (2 * t.val + u.val) := by
  unfold emb
  match u with
  | ⟨0, _⟩ =>
    rw [if_pos (by show (2 * t.val + 0) % 2 = 0; omega)]
    show _ = Ideal.sin (wave _ ((2 * t.val + 0) / 2))
    rw [show (2 * t.val + 0) / 2 = t.val by omega]
    pointwise [val_main_v134, val_main_v132, val_main_v130, angular_waves_value]
  | ⟨1, _⟩ =>
    rw [if_neg (by show ¬ (2 * t.val + 1) % 2 = 0; omega)]
    show _ = Ideal.cos (wave _ ((2 * t.val + 1) / 2))
    rw [show (2 * t.val + 1) / 2 = t.val by omega]
    pointwise [val_main_v134, val_main_v133, val_main_v131, angular_waves_value]

theorem angular_embedding_value (r : Fin 181) (k : Fin 256) : val_main_v135 (F := Ideal) (ix2 r k) = emb (fifteenths r.val) k.val := by
  have h := angular_pair_value r ⟨k.val / 2, by omega⟩ ⟨k.val % 2, by omega⟩
  rw [show 2 * (k.val / 2) + k.val % 2 = k.val by omega] at h
  rw [← h]
  unfold val_main_v135
  generalize val_main_v134 (F := Ideal) = y
  refine shapeCast_apply y shapeCasts_S181x128x2_S181x256 (ix2 r k) (ix3 r ⟨k.val / 2, by omega⟩ ⟨k.val % 2, by omega⟩) ?_
  rw [Shape.rowMajor_val_two, Shape.rowMajor_val_three]
  show (r.val * 128 + k.val / 2) * 2 + k.val % 2 = r.val * 256 + k.val
  omega

theorem table_value (r : Fin 181) (h : Fin 256) : val_main_v140 (F := Ideal) x3 x4 (ix2 r h)
    = lin (mat x3) (vec x4) (fifteenths r.val) h := by
  unfold lin
  pointwise [val_main_v140, val_main_v139, val_main_v138, val_main_v137, val_main_v136, angular_embedding_value]
  rfl

/-! ## The angles' part -/

theorem bin_word (hp : Finite (pts x0)) (n : ℕ) (i j : Fin 256) :
    bin (pts x0) n i j = BitVec.ofNat 32 (bin (pts x0) n i j).toNat ∧ (bin (pts x0) n i j).toNat ≤ 180 := by
  obtain ⟨b, hb, e⟩ := bin_le hp n i j
  rw [e, toNat_small b (by omega)]
  exact ⟨rfl, hb⟩

theorem lookup_value (hp : Finite (pts x0)) (i j : Fin 256) (n : Fin 3) (u : Fin 1) :
    val_main_call4_v5 (F := Ideal) x0 (ix5 0 i j n u) = BitVec.ofNat 32 (bin (pts x0) (n.val + 1) i j).toNat := by
  obtain ⟨e, h⟩ := bin_word x0 hp (n.val + 1) i j
  have e' : val_main_v86 (F := Ideal) x0 (ix4 0 i j n) = BitVec.ofNat 32 (bin (pts x0) (n.val + 1) i j).toNat :=
    (bin_value x0 hp i j n).trans e
  generalize (bin (pts x0) (n.val + 1) i j).toNat = b at e' h ⊢
  pointwise [val_main_call4_v5, val_main_call4_v4, val_main_call4_v1, val_main_call4_v0, val_main_call4_c, e']
  exact wrap_small _ (by omega) _

theorem lookup_inRange (hp : Finite (pts x0)) (q : S1x256x256x3x1.Idx) : val_main_call4_v11 (F := Ideal) x0 q = 1#1 := by
  rw [eq_ix5 q, show (q 0) = (0 : Fin 1) from Fin.ext (Nat.lt_one_iff.mp (q 0).isLt)]
  have e := lookup_value x0 hp (q 1) (q 2) (q 3) (q 4)
  pointwise [val_main_call4_v11, val_main_call4_v7, val_main_call4_v10, val_main_call4_v6, val_main_call4_c_2, val_main_call4_v9,
    val_main_call4_v8, val_main_call4_c_1, e]
  exact mask_small _ 180 (bin_word x0 hp _ _ _).2 (by decide)

/-- The dimension numbers of the table's lookup. -/
abbrev takeRow : GatherDims S181x256 S1x256x256x3x1 S1x256x256x3x256 := gather_S181x256_S1x256x256x3x1_S1x256x256x3x256_4_0_n_n_0_4_1256

theorem looked_value (hp : Finite (pts x0)) (i j : Fin 256) (n : Fin 3) (h : Fin 256) :
    val_main_call4_v13 (F := Ideal) x0 x3 x4 (ix5 0 i j n h)
      = lin (mat x3) (vec x4) (fifteenths (bin (pts x0) (n.val + 1) i j).toNat) h := by
  have hb := (bin_word x0 hp (n.val + 1) i j).2
  have hs := lookup_value x0 hp i j n 0
  unfold val_main_call4_v13 Host.gather
  generalize val_main_call4_v5 (F := Ideal) x0 = idx at hs ⊢
  generalize (bin (pts x0) (n.val + 1) i j).toNat = b at hs hb ⊢
  rw [← table_value x3 x4 ⟨b, by omega⟩ h]
  refine congrArg (val_main_v140 (F := Ideal) x3 x4) (funext fun a => ?_)
  match a with
  | ⟨0, _⟩ =>
    refine Fin.ext ?_
    show takeRow.start (ix5 0 i j n h) idx 0 + takeRow.batchCoord (ix5 0 i j n h) 0 + takeRow.offCoord (ix5 0 i j n h) 0 = b
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (0 : Fin 2) ∈ takeRow.startIndexMap from List.mem_singleton.mpr rfl)]
    have hsi : takeRow.siIdx (ix5 0 i j n h) ⟨List.idxOf (0 : Fin 2) takeRow.startIndexMap,
        List.idxOf_lt_length_iff.2 (List.mem_singleton.mpr rfl)⟩ = ix5 0 i j n 0 := by
      funext b
      match b with
      | ⟨0, _⟩ => rfl
      | ⟨1, _⟩ => rfl
      | ⟨2, _⟩ => rfl
      | ⟨3, _⟩ => rfl
      | ⟨4, _⟩ => rfl
    rw [hsi, hs, toInt_small _ (by omega)]
    show min (Int.toNat b) (181 - 1) + 0 + 0 = b
    rw [Int.toNat_natCast]
    omega
  | ⟨1, _⟩ =>
    refine Fin.ext ?_
    show takeRow.start (ix5 0 i j n h) idx 1 + takeRow.batchCoord (ix5 0 i j n h) 1 + takeRow.offCoord (ix5 0 i j n h) 1 = h.val
    rw [GatherDims.batchCoord_eq_zero _ _ _ (by decide)]
    unfold GatherDims.start
    rw [dif_neg (by decide)]
    show 0 + 0 + h.val = h.val
    omega

theorem row_value (hp : Finite (pts x0)) (i j : Fin 256) (n : Fin 3) (h : Fin 256) :
    val_main_v141 (F := Ideal) x0 x3 x4 (ix5 0 i j n h)
      = lin (mat x3) (vec x4) (fifteenths (bin (pts x0) (n.val + 1) i j).toNat) h := by
  rw [← looked_value x0 x3 x4 hp i j n h]
  have m : ∀ q, val_main_call4_v12 (F := Ideal) x0 q = 1#1 := fun q =>
    reduce_andi_ones _ _ _ _ _ (lookup_inRange x0 hp) rfl
  pointwise [val_main_v141, val_main_call4_v14, m]

theorem fold_max_three (f : Fin 3 → EReal) : Finset.univ.fold max ⊥ f = max (max (f 0) (f 1)) (f 2) := by
  rw [show (Finset.univ : Finset (Fin 3)) = insert 0 (insert 1 {2}) from by decide, Finset.fold_insert (by decide),
    Finset.fold_insert (by decide), Finset.fold_singleton, max_bot_right, max_assoc]

theorem angle_part (hp : Finite (pts x0)) (i j h : Fin 256) : val_main_v142 (F := Ideal) x0 x3 x4 (ix4 0 i j h)
    = max (max (lin (mat x3) (vec x4) (fifteenths (bin (pts x0) 1 i j).toNat) h)
        (lin (mat x3) (vec x4) (fifteenths (bin (pts x0) 2 i j).toNat) h))
      (lin (mat x3) (vec x4) (fifteenths (bin (pts x0) 3 i j).toNat) h) := by
  have e := row_value x0 x3 x4 hp i j
  pointwise [val_main_v142, val_main_cst_15, e]
  rw [word_bot]
  exact fold_max_three _

theorem mixed_value (hp : Finite (pts x0)) (i j h : Fin 256) : val_main_v143 (F := Ideal) x0 x1 x2 x3 x4 (ix4 0 i j h)
    = mixed (mat x1) (vec x2) (mat x3) (vec x4) (Ideal.div (dist (pts x0) i j) (Ideal.ofBits .f32 0x3E4CCCCD#32))
      (bin (pts x0) 1 i j).toNat (bin (pts x0) 2 i j).toNat (bin (pts x0) 3 i j).toNat h := by
  unfold mixed
  rw [← distance_part x0 x1 x2 i j h, ← angle_part x0 x3 x4 hp i j h]
  rfl

/-! ## The dense layer -/

theorem leaky_value (i j k : Fin 256) : val_main_v148 (F := Ideal) x0 x1 x2 x3 x4 (ix4 0 i j k)
    = leaky (val_main_v143 (F := Ideal) x0 x1 x2 x3 x4 (ix4 0 i j k)) := by
  unfold leaky
  pointwise [val_main_v148, val_main_v147, val_main_v146, val_main_cst_17, val_main_v145, val_main_v144, val_main_cst_16]

/-- The row of the dense layer at a pair of points. -/
def row (i j : Fin 256) (h : Fin 256) : EReal := val_main_v153 (F := Ideal) x0 x1 x2 x3 x4 x5 x6 (ix4 0 i j h)

theorem row_dense (hp : Finite (pts x0)) (i j : Fin 256) : row x0 x1 x2 x3 x4 x5 x6 i j
    = dense (mat x5) (vec x6) (mixed (mat x1) (vec x2) (mat x3) (vec x4) (Ideal.div (dist (pts x0) i j) (Ideal.ofBits .f32 0x3E4CCCCD#32))
      (bin (pts x0) 1 i j).toNat (bin (pts x0) 2 i j).toNat (bin (pts x0) 3 i j).toNat) := by
  funext h
  unfold row dense
  have e := fun k => mixed_value x0 x1 x2 x3 x4 hp i j k
  pointwise [val_main_v153, val_main_v152, val_main_v151, val_main_v150, val_main_v149, leaky_value x0 x1 x2 x3 x4, e]
  rfl

theorem mean_value (i j : Fin 256) (u : Fin 1) : val_main_v157 (F := Ideal) x0 x1 x2 x3 x4 x5 x6 (ix4 0 i j u)
    = mean (row x0 x1 x2 x3 x4 x5 x6 i j) := by
  unfold mean row
  pointwise [val_main_v157, val_main_v156, val_main_cst_19, val_main_v155, val_main_v154, val_main_cst_18, zero_add]

theorem mean_again (i j : Fin 256) (u : Fin 1) : val_main_call6_v3 (F := Ideal) x0 x1 x2 x3 x4 x5 x6 (ix4 0 i j u)
    = mean (row x0 x1 x2 x3 x4 x5 x6 i j) := mean_value x0 x1 x2 x3 x4 x5 x6 i j u

theorem count_value : val_main_call6_v8 (F := Ideal) ix0 = Ideal.ofBits .f32 0x43800000#32 := by
  show Ideal.ofBits .f32 0x43800000#32 - (((0#32 : BitVec 32).toInt : ℝ) : EReal) = _
  simp

theorem variance_value (i j : Fin 256) (u : Fin 1) : val_main_v158 (F := Ideal) x0 x1 x2 x3 x4 x5 x6 (ix4 0 i j u)
    = variance (row x0 x1 x2 x3 x4 x5 x6 i j) := by
  have e := mean_again x0 x1 x2 x3 x4 x5 x6 i j
  have d : ∀ k : Fin 256, val_main_call6_v5 (F := Ideal) x0 x1 x2 x3 x4 x5 x6 (ix4 0 i j k)
      = row x0 x1 x2 x3 x4 x5 x6 i j k - mean (row x0 x1 x2 x3 x4 x5 x6 i j) := fun k => by
    pointwise [val_main_call6_v5, val_main_call6_v4, e]
    rfl
  have m : val_main_call6_v13 (F := Ideal) ix0 = 1#1 := by
    pointwise [val_main_call6_v13, val_main_call6_cst_3, count_value]
    rw [word_width]
    simp
  unfold variance
  pointwise [val_main_v158, m, val_main_call6_v12, val_main_call6_v11, count_value, val_main_call6_v10, val_main_call6_v9,
    val_main_call6_cst_2, val_main_call6_v6, d, zero_add]

/-- The reference's result at a pair of points and a feature. -/
theorem result_value (hp : Finite (pts x0)) (i j h : Fin 256) :
    val_main_v171 (F := Ideal) x0 x1 x2 x3 x4 x5 x6 x7 x8 (ix4 0 i j h)
      = whole (pts x0) (mat x1) (vec x2) (mat x3) (vec x4) (mat x5) (vec x6) (vec x7) (vec x8) i j h := by
  unfold whole
  rw [← row_dense x0 x1 x2 x3 x4 x5 x6 hp i j]
  unfold normalise
  rw [← div_sqrt _ _ (variance_nonneg _)]
  have e₁ := mean_value x0 x1 x2 x3 x4 x5 x6 i j
  have e₂ := variance_value x0 x1 x2 x3 x4 x5 x6 i j
  pointwise [val_main_v171, val_main_v170, val_main_v169, val_main_v168, val_main_v167, val_main_v166, val_main_v165, val_main_v164,
    val_main_v163, val_main_v162, val_main_v161, val_main_cst_21, val_main_v160, val_main_v159, e₁, e₂]
  rfl

end Cert.RefValue

end
-- ==== Proof.KernelRun.lean ====
/- The kernel program's whole run, with its result: every buffer that is not scoped ends at the contents of the
   last segment boundary, so the result array and the nine arguments do. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates with every unscoped buffer at the last boundary's
    contents. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- What the program leaves in its result array. -/
def result (c : Dev nD) : Buf (Elt F) ((c.tc : Thread nD τ).loc main_v28) := W5 m ρ c (Proc.devRef .tc main_v28)

/-- The run of the program: its result at `result` and its arguments as launched. -/
theorem run : θ_run defs (onTc (τ := τ) (main (F := F))) ⟨m, fun _ => 0, ρ⟩ (fun r => ∀ c : Dev nD,
      r.2.mem ((c.tc : Thread nD τ).loc main_v28) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v28 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c)⟩) (ends m ρ)

end Cert.KernelIdeal.Run

end
-- ==== Proof.KernelGeom.lean ====
/- The first kernel's distances, neighbours, angle bins and table. -/
module

public import proofs.«01_k».proof.Proof.Gen.KernelIdeal.Frame
public import Idealize.ShloMosaic.Lib.WordArith
public import proofs.«01_k».proof.Proof.Args
public import proofs.«01_k».proof.Proof.Words

@[expose] public section

noncomputable section

namespace Cert.KernelValue

open Cert.KernelIdeal Cert.KernelIdeal.Gen Cert.Geo Idealize.ShloMosaic

/-! ## The first smallest entry of a row -/

theorem fold_min_top (x : Fin 256 → EReal) : Finset.univ.fold min ⊤ x = x (firstMin x) := by
  refine le_antisymm (Finset.fold_min_le _ |>.mpr (Or.inr ⟨firstMin x, Finset.mem_univ _, le_rfl⟩)) ?_
  exact (Finset.le_fold_min _).mpr ⟨le_top, fun j _ => (firstMin_spec x).1 j⟩

theorem fold_minsi_toNat (s : Finset (Fin 256)) (g : Fin 256 → BitVec 32) (a : BitVec 32) (ha : a.toNat < 2 ^ 31)
    (hg : ∀ k, (g k).toNat < 2 ^ 31) : (s.fold IntOp.minsi a g).toNat = s.fold min a.toNat fun k => (g k).toNat := by
  classical
  have h : (s.fold IntOp.minsi a g).toNat < 2 ^ 31 ∧ (s.fold IntOp.minsi a g).toNat = s.fold min a.toNat fun k => (g k).toNat := by
    induction s using Finset.induction with
    | empty => exact ⟨ha, rfl⟩
    | insert k s hk ih =>
      rw [Finset.fold_insert hk, Finset.fold_insert hk, WordArith.toNat_minsi_of_lt _ _ (hg k) ih.1, ih.2]
      exact ⟨lt_of_le_of_lt (min_le_left _ _) (hg k), rfl⟩
  exact h.2

/-- The smallest position among those at which the row is smallest. -/
theorem fold_minsi_first (x : Fin 256 → EReal) [d : ∀ k, Decidable (x k = x (firstMin x))] :
    Finset.univ.fold IntOp.minsi 2147483647#32 (fun k : Fin 256 => if x k = x (firstMin x) then BitVec.ofNat 32 k.val else 256#32)
      = BitVec.ofNat 32 (firstMin x).val := by
  have e : ∀ k : Fin 256, (if x k = x (firstMin x) then BitVec.ofNat 32 k.val else 256#32).toNat
      = if x k = x (firstMin x) then k.val else 256 := fun k => by
    split
    · exact toNat_small _ (by omega)
    · rfl
  apply BitVec.eq_of_toNat_eq
  rw [toNat_small _ (by omega), fold_minsi_toNat _ _ _ (by decide) fun k => by rw [e]; split <;> omega]
  simp only [e]
  refine le_antisymm ((Finset.fold_min_le _).mpr (Or.inr ⟨firstMin x, Finset.mem_univ _, by rw [if_pos rfl]⟩)) ?_
  refine (Finset.le_fold_min _).mpr ⟨by show (firstMin x).val ≤ 2147483647; omega, fun k _ => ?_⟩
  split
  · rename_i h
    by_contra hk
    exact absurd ((firstMin_spec x).2 k (by omega)) (by rw [h]; exact lt_irrefl _)
  · omega

/-- The positions of a row. -/
abbrev positions : IVec S256x256 32 := iota .tc S256x256 32 [1] iota_S256x256_d1_w32

theorem mask_value (y : FVec Ideal S256x256 .f32) (i j : Fin 256) : k0_pay25 positions y (ix2 i j)
    = BitVec.ofBool (decide (j = firstMin fun k => y (ix2 i k))) := by
  pointwise [k0_pay25]
  rw [word_top, fold_min_top fun k => y (ix2 i k), fold_minsi_first fun k => y (ix2 i k)]
  exact cmpi_eq_small (by decide) _ _

theorem strike_value (y : FVec Ideal S256x256 .f32) (i j : Fin 256) : k0_pay26 positions y (ix2 i j)
    = strike (fun k => y (ix2 i k)) j := by
  unfold strike
  have e := mask_value y
  pointwise [k0_pay26, e]
  rfl

/-! ## Distances and strikes -/

section
variable (x0 : Vec Ideal S256x3 .f32) (x1 : Vec Ideal S3x256 .f32) (x2 : Vec Ideal S256x256 .f32) (x3 : Vec Ideal S1x256 .f32)
  (p : Fin 256 → Fin 3 → EReal) (h0 : ∀ i a, x0 (ix2 i a) = p i a) (h1 : ∀ j a, x1 (ix2 a j) = p j a)
include h0 h1

theorem distance_value (i j : Fin 256) : k0_pay14 (k0_pay49 x0 x1 x2 x3) (k0_pay50 x0 x1 x2 x3) (k0_pay51 x0 x1 x2 x3)
    (k0_pay55 x0 x1 x2 x3) (k0_pay56 x0 x1 x2 x3) (k0_pay57 x0 x1 x2 x3) (ix2 i j) = dist p i j := by
  pointwise [k0_pay14, k0_pay49, k0_pay50, k0_pay51, k0_pay55, k0_pay56, k0_pay57, k0_pay5, k0_pay6, k0_pay7, k0_pay11, k0_pay12,
    k0_pay13, k0_pay2, k0_pay3, k0_pay4, h0, h1]
  rfl

theorem scaled_value (i j : Fin 256) : out0_4 x0 x1 x2 x3 (ix2 i j) = Ideal.div (dist p i j) (Ideal.ofBits .f32 0x3E4CCCCD#32) := by
  rw [← distance_value x0 x1 x2 x3 p h0 h1]
  unfold out0_4
  rw [View.canon_unit_zero (by funext a; fin_cases a <;> rfl)]
  pointwise [k0_pay15]

theorem struck_one (i j : Fin 256) : k0_pay17 (k0_pay49 x0 x1 x2 x3) (k0_pay50 x0 x1 x2 x3) (k0_pay51 x0 x1 x2 x3)
    (k0_pay55 x0 x1 x2 x3) (k0_pay56 x0 x1 x2 x3) (k0_pay57 x0 x1 x2 x3) (ix2 i j) = struck (dist p i) 1 j := by
  refine (strike_value (k0_pay14 (k0_pay49 x0 x1 x2 x3) (k0_pay50 x0 x1 x2 x3) (k0_pay51 x0 x1 x2 x3)
    (k0_pay55 x0 x1 x2 x3) (k0_pay56 x0 x1 x2 x3) (k0_pay57 x0 x1 x2 x3)) i j).trans ?_
  exact congrArg (fun y => strike y j) (funext fun k => distance_value x0 x1 x2 x3 p h0 h1 i k)

theorem mask_one (i j : Fin 256) : k0_pay60 x0 x1 x2 x3 (ix2 i j) = BitVec.ofBool (decide (j = nearest (dist p i) 1)) := by
  refine (mask_value (k0_pay17 (k0_pay49 x0 x1 x2 x3) (k0_pay50 x0 x1 x2 x3) (k0_pay51 x0 x1 x2 x3)
    (k0_pay55 x0 x1 x2 x3) (k0_pay56 x0 x1 x2 x3) (k0_pay57 x0 x1 x2 x3)) i j).trans ?_
  exact congrArg (fun y => BitVec.ofBool (decide (j = firstMin y))) (funext fun k => struck_one x0 x1 x2 x3 p h0 h1 i k)

theorem struck_two (i j : Fin 256) : k0_pay61 x0 x1 x2 x3 (ix2 i j) = struck (dist p i) 2 j := by
  refine (strike_value (k0_pay17 (k0_pay49 x0 x1 x2 x3) (k0_pay50 x0 x1 x2 x3) (k0_pay51 x0 x1 x2 x3)
    (k0_pay55 x0 x1 x2 x3) (k0_pay56 x0 x1 x2 x3) (k0_pay57 x0 x1 x2 x3)) i j).trans ?_
  exact congrArg (fun y => strike y j) (funext fun k => struck_one x0 x1 x2 x3 p h0 h1 i k)

theorem mask_two (i j : Fin 256) : k0_pay62 x0 x1 x2 x3 (ix2 i j) = BitVec.ofBool (decide (j = nearest (dist p i) 2)) := by
  refine (mask_value (k0_pay61 x0 x1 x2 x3) i j).trans ?_
  exact congrArg (fun y => BitVec.ofBool (decide (j = firstMin y))) (funext fun k => struck_two x0 x1 x2 x3 p h0 h1 i k)

theorem struck_three (i j : Fin 256) : k0_pay63 x0 x1 x2 x3 (ix2 i j) = struck (dist p i) 3 j := by
  refine (strike_value (k0_pay61 x0 x1 x2 x3) i j).trans ?_
  exact congrArg (fun y => strike y j) (funext fun k => struck_two x0 x1 x2 x3 p h0 h1 i k)

theorem mask_three (i j : Fin 256) : k0_pay37 (k0_pay58 x0 x1 x2 x3) (k0_pay63 x0 x1 x2 x3) (ix2 i j)
    = BitVec.ofBool (decide (j = nearest (dist p i) 3)) := by
  refine (mask_value (k0_pay63 x0 x1 x2 x3) i j).trans ?_
  exact congrArg (fun y => BitVec.ofBool (decide (j = firstMin y))) (funext fun k => struck_three x0 x1 x2 x3 p h0 h1 i k)

/-! ## The neighbours' vectors -/

omit h0 h1 in
theorem sum_pick (f : Fin 256 → EReal) (r : Fin 256) : (∑ k : Fin 256, if k = r then f k else 0) = f r := by
  rw [Finset.sum_ite_eq' Finset.univ r f, if_pos (Finset.mem_univ r)]

theorem side_one_x (i : Fin 256) (u : Fin 1) : k0_pay20 (k0_pay46 x0 x1 x2 x3) (k0_pay49 x0 x1 x2 x3) (k0_pay60 x0 x1 x2 x3)
    (0 : EReal) (ix2 i u) = side p i 1 0 := by
  have e := mask_one x0 x1 x2 x3 p h0 h1
  have h := sum_pick (fun k => p k 0) (nearest (dist p i) 1)
  pointwise [k0_pay20, k0_pay46, k0_pay2, k0_pay49, k0_pay5, e, h0, h1, h]
  rfl

theorem side_one_y (i : Fin 256) (u : Fin 1) : k0_pay21 (k0_pay47 x0 x1 x2 x3) (k0_pay50 x0 x1 x2 x3) (k0_pay60 x0 x1 x2 x3)
    (ix2 i u) = side p i 1 1 := by
  have e := mask_one x0 x1 x2 x3 p h0 h1
  have h := sum_pick (fun k => p k 1) (nearest (dist p i) 1)
  pointwise [k0_pay21, k0_pay47, k0_pay3, k0_pay50, k0_pay6, e, h0, h1, h]
  rfl

theorem side_one_z (i : Fin 256) (u : Fin 1) : k0_pay22 (k0_pay48 x0 x1 x2 x3) (k0_pay51 x0 x1 x2 x3) (k0_pay60 x0 x1 x2 x3)
    (ix2 i u) = side p i 1 2 := by
  have e := mask_one x0 x1 x2 x3 p h0 h1
  have h := sum_pick (fun k => p k 2) (nearest (dist p i) 1)
  pointwise [k0_pay22, k0_pay48, k0_pay4, k0_pay51, k0_pay7, e, h0, h1, h]
  rfl

theorem arm_x (i j : Fin 256) : k0_pay52 x0 x1 x2 x3 (ix2 i j) = arm p i j 0 := by
  pointwise [k0_pay52, k0_pay8, k0_pay5, k0_pay2, h0, h1]
  rfl

theorem arm_y (i j : Fin 256) : k0_pay53 x0 x1 x2 x3 (ix2 i j) = arm p i j 1 := by
  pointwise [k0_pay53, k0_pay9, k0_pay6, k0_pay3, h0, h1]
  rfl

theorem arm_z (i j : Fin 256) : k0_pay54 x0 x1 x2 x3 (ix2 i j) = arm p i j 2 := by
  pointwise [k0_pay54, k0_pay10, k0_pay7, k0_pay4, h0, h1]
  rfl

omit h0 h1 in
/-- The selects that end each bin. -/
theorem bin_select (n : ℕ) (i j : Fin 256) : Scalar.select (IntOp.cmpi .eq (BitVec.ofNat 32 j.val) (BitVec.ofNat 32 i.val))
    (Scalar.select (IntOp.andi (IntOp.andi (BitVec.ofBool (decide (side p i n 0 < 0))) (BitVec.ofBool (decide (side p i n 1 < 0))))
      (BitVec.ofBool (decide (side p i n 2 < 0)))) 180#32 0#32) (degrees (angle (side p i n) (arm p i j))) = bin p n i j := by
  rw [cmpi_eq_small (by decide), select_ofBool]
  simp only [andi_ofBool, ← Bool.decide_and, select_ofBool, and_assoc]
  unfold bin
  by_cases h : i = j
  · rw [if_pos h, if_pos h.symm]
  · rw [if_neg h, if_neg (Ne.symm h)]

theorem bin_one (i j : Fin 256) : out0_5 x0 x1 x2 x3 (ix2 i j) = bin p 1 i j := by
  have e1 := side_one_x x0 x1 x2 x3 p h0 h1
  have e2 := side_one_y x0 x1 x2 x3 p h0 h1
  have e3 := side_one_z x0 x1 x2 x3 p h0 h1
  have a1 := arm_x x0 x1 x2 x3 p h0 h1
  have a2 := arm_y x0 x1 x2 x3 p h0 h1
  have a3 := arm_z x0 x1 x2 x3 p h0 h1
  rw [← bin_select]
  unfold out0_5
  rw [View.canon_unit_zero (by funext a; fin_cases a <;> rfl)]
  pointwise [k0_pay24, k0_pay23, k0_pay59, k0_pay16, e1, e2, e3, a1, a2, a3]
  rfl

theorem side_two_x (i : Fin 256) (u : Fin 1) : k0_pay31 (k0_pay46 x0 x1 x2 x3) (k0_pay64 x0 x1 x2 x3) (ix2 i u) = side p i 2 0 := by
  have e : ∀ i j, k0_pay25 (k0_pay58 x0 x1 x2 x3) (k0_pay61 x0 x1 x2 x3) (ix2 i j) = _ := mask_two x0 x1 x2 x3 p h0 h1
  have h := sum_pick (fun k => p k 0) (nearest (dist p i) 2)
  pointwise [k0_pay31, k0_pay46, k0_pay2, k0_pay64, k0_pay27, k0_pay49, k0_pay5, e, h0, h1, h]
  rfl

theorem side_two_y (i : Fin 256) (u : Fin 1) : k0_pay32 (k0_pay47 x0 x1 x2 x3) (k0_pay65 x0 x1 x2 x3) (ix2 i u) = side p i 2 1 := by
  have e : ∀ i j, k0_pay25 (k0_pay58 x0 x1 x2 x3) (k0_pay61 x0 x1 x2 x3) (ix2 i j) = _ := mask_two x0 x1 x2 x3 p h0 h1
  have h := sum_pick (fun k => p k 1) (nearest (dist p i) 2)
  pointwise [k0_pay32, k0_pay47, k0_pay3, k0_pay65, k0_pay28, k0_pay50, k0_pay6, e, h0, h1, h]
  rfl

theorem side_two_z (i : Fin 256) (u : Fin 1) : k0_pay33 (k0_pay48 x0 x1 x2 x3) (k0_pay62 x0 x1 x2 x3) (k0_pay66 x0 x1 x2 x3)
    (k0_pay67 x0 x1 x2 x3) (ix2 i u) = side p i 2 2 := by
  have e := mask_two x0 x1 x2 x3 p h0 h1
  have h := sum_pick (fun k => p k 2) (nearest (dist p i) 2)
  pointwise [k0_pay33, k0_pay48, k0_pay4, k0_pay66, k0_pay67, k0_pay29, k0_pay30, k0_pay51, k0_pay7, e, h0, h1, h]
  rfl

theorem bin_two (i j : Fin 256) : out0_6 x0 x1 x2 x3 (ix2 i j) = bin p 2 i j := by
  have e1 := side_two_x x0 x1 x2 x3 p h0 h1
  have e2 := side_two_y x0 x1 x2 x3 p h0 h1
  have e3 := side_two_z x0 x1 x2 x3 p h0 h1
  have a1 := arm_x x0 x1 x2 x3 p h0 h1
  have a2 := arm_y x0 x1 x2 x3 p h0 h1
  have a3 := arm_z x0 x1 x2 x3 p h0 h1
  rw [← bin_select]
  unfold out0_6
  rw [View.canon_unit_zero (by funext a; fin_cases a <;> rfl)]
  pointwise [k0_pay36, k0_pay34, k0_pay35, k0_pay59, k0_pay16, e1, e2, e3, a1, a2, a3]
  rfl

theorem side_three_x (i : Fin 256) (u : Fin 1) : k0_pay38 (k0_pay46 x0 x1 x2 x3) (k0_pay49 x0 x1 x2 x3) (k0_pay58 x0 x1 x2 x3)
    (k0_pay63 x0 x1 x2 x3) (ix2 i u) = side p i 3 0 := by
  have e := mask_three x0 x1 x2 x3 p h0 h1
  have h := sum_pick (fun k => p k 0) (nearest (dist p i) 3)
  pointwise [k0_pay38, k0_pay46, k0_pay2, k0_pay49, k0_pay5, e, h0, h1, h]
  rfl

theorem side_three_y (i : Fin 256) (u : Fin 1) : k0_pay39 (k0_pay47 x0 x1 x2 x3) (k0_pay50 x0 x1 x2 x3) (k0_pay58 x0 x1 x2 x3)
    (k0_pay63 x0 x1 x2 x3) (ix2 i u) = side p i 3 1 := by
  have e := mask_three x0 x1 x2 x3 p h0 h1
  have h := sum_pick (fun k => p k 1) (nearest (dist p i) 3)
  pointwise [k0_pay39, k0_pay47, k0_pay3, k0_pay50, k0_pay6, e, h0, h1, h]
  rfl

theorem side_three_z (i : Fin 256) (u : Fin 1) : k0_pay40 (k0_pay48 x0 x1 x2 x3) (k0_pay51 x0 x1 x2 x3) (k0_pay58 x0 x1 x2 x3)
    (k0_pay63 x0 x1 x2 x3) (ix2 i u) = side p i 3 2 := by
  have e := mask_three x0 x1 x2 x3 p h0 h1
  have h := sum_pick (fun k => p k 2) (nearest (dist p i) 3)
  pointwise [k0_pay40, k0_pay48, k0_pay4, k0_pay51, k0_pay7, e, h0, h1, h]
  rfl

theorem bin_three (i j : Fin 256) : out0_7 x0 x1 x2 x3 (ix2 i j) = bin p 3 i j := by
  have e1 := side_three_x x0 x1 x2 x3 p h0 h1
  have e2 := side_three_y x0 x1 x2 x3 p h0 h1
  have e3 := side_three_z x0 x1 x2 x3 p h0 h1
  have a1 := arm_x x0 x1 x2 x3 p h0 h1
  have a2 := arm_y x0 x1 x2 x3 p h0 h1
  have a3 := arm_z x0 x1 x2 x3 p h0 h1
  rw [← bin_select]
  unfold out0_7
  rw [View.canon_unit_zero (by funext a; fin_cases a <;> rfl)]
  pointwise [k0_pay44, k0_pay41, k0_pay42, k0_pay43, k0_pay59, k0_pay16, e1, e2, e3, a1, a2, a3]
  rfl

end

/-! ## The angles' table -/

theorem real_of_word (w : ℕ) (h : w < 2 ^ 31) : ((((BitVec.ofNat 32 w).toInt : ℤ) : ℝ) : EReal) = ((w : ℝ) : EReal) := by
  rw [toInt_small w h]
  rfl

theorem sitofp_small (w : ℕ) (h : w < 2 ^ 31) : FloatOps.sitofp (F := Ideal) .f32 (BitVec.ofNat 32 w) = ((w : ℝ) : EReal) :=
  real_of_word w h

theorem table_embedding (r k : Fin 256) : k0_pay45 (F := Ideal) (ix2 r k) = embHalves (fifteenths r.val) k.val := by
  unfold embHalves fifteenths wave
  have e : ∀ w : Fin 256, FloatOps.sitofp (F := Ideal) .f32 (BitVec.ofNat 32 w.val) = ((w.val : ℝ) : EReal) :=
    fun w => sitofp_small _ (by omega)
  have e' : ∀ w : Fin 128, FloatOps.sitofp (F := Ideal) .f32 (BitVec.ofNat 32 w.val) = ((w.val : ℝ) : EReal) :=
    fun w => sitofp_small _ (by omega)
  pointwise [k0_pay45, e, e']
  split
  · rfl
  · rw [sitofp_small _ (by omega)]
    rfl

theorem table_value (x0 : Vec Ideal S256x3 .f32) (x1 : Vec Ideal S3x256 .f32) (x2 : Vec Ideal S256x256 .f32) (x3 : Vec Ideal S1x256 .f32)
    (W : Fin 256 → Fin 256 → EReal) (b : Fin 256 → EReal) (h2 : ∀ k h, x2 (ix2 k h) = W h (place k)) (h3 : ∀ h, x3 (ix2 0 h) = b h)
    (r h : Fin 256) (hr : r.val ≤ 180) : out0_8 x0 x1 x2 x3 (ix2 r h) = lin W b (fifteenths r.val) h := by
  rw [← lin_eq_halves]
  unfold out0_8
  rw [View.canon_unit_zero (by funext a; fin_cases a <;> rfl)]
  pointwise [k0_pay1, table_embedding, h2, h3]
  rw [cmpi_sle_small r.val 180 (by omega) (by decide), select_ofBool, if_pos hr]

end Cert.KernelValue

end
-- ==== Proof.KernelDense.lean ====
/- The second kernel's block: the embeddings' linear maps, the dense layer and its normalisation. -/
module

public import proofs.«01_k».proof.Proof.KernelGeom

@[expose] public section

noncomputable section

namespace Cert.KernelValue

open Cert.KernelIdeal Cert.KernelIdeal.Gen Cert.Geo Idealize.ShloMosaic

variable (x0 : Vec Ideal S2048x1 .f32) (x1 x2 x3 : Vec Ideal S2048x1 .i32) (x4 x5 : Vec Ideal S256x256 .f32) (x6 : Vec Ideal S1x256 .f32)
  (x7 : Vec Ideal S256x256 .f32) (x8 x9 x10 : Vec Ideal S1x256 .f32)
  (Wd : Fin 256 → Fin 256 → EReal) (bd : Fin 256 → EReal) (Wa : Fin 256 → Fin 256 → EReal) (ba : Fin 256 → EReal)
  (We : Fin 256 → Fin 256 → EReal) (be g b : Fin 256 → EReal) (d : EReal) (b₁ b₂ b₃ : ℕ) (q : Fin 2048)

theorem distance_embedding (hd : x0 (ix2 q 0) = d) (hW : ∀ k h, x5 (ix2 k h) = Wd h (place k)) (hb : ∀ h, x6 (ix2 0 h) = bd h)
    (h : Fin 256) : k1_pay2 x0 x5 x6 (ix2 q h) = lin Wd bd d h := by
  rw [← lin_eq_halves]
  unfold embHalves wave
  have e' : ∀ w : Fin 128, FloatOps.sitofp (F := Ideal) .f32 (BitVec.ofNat 32 w.val) = ((w.val : ℝ) : EReal) :=
    fun w => sitofp_small _ (by omega)
  pointwise [k1_pay2, e', hd, hW, hb]

/-- An entry of a one-hot row. -/
theorem one_hot (k : Fin 256) (w : ℕ) (hw : w < 256) :
    FloatOps.sitofp (F := Ideal) .f32 (BitVec.setWidth 32 (IntOp.cmpi .eq (BitVec.ofNat 32 k.val) (BitVec.ofNat 32 w)))
      = if k = ⟨w, hw⟩ then 1 else 0 := by
  have h := cmpi_eq_small (n := 256) (by decide) k ⟨w, hw⟩
  rw [h]
  by_cases hk : k = ⟨w, hw⟩
  · rw [if_pos hk, decide_eq_true hk]
    show (((1 : ℤ) : ℝ) : EReal) = 1
    simp
  · rw [if_neg hk, decide_eq_false hk]
    show (((0 : ℤ) : ℝ) : EReal) = 0
    simp

/-- A one-hot row times the table is the table's row. -/
theorem one_hot_row (T : Fin 256 → EReal) (w : ℕ) (hw : w < 256) :
    (∑ k : Fin 256, FloatOps.sitofp (F := Ideal) .f32 (BitVec.setWidth 32 (IntOp.cmpi .eq (BitVec.ofNat 32 k.val) (BitVec.ofNat 32 w))) * T k)
      = T ⟨w, hw⟩ := by
  simp only [one_hot _ w hw, ite_mul, one_mul, zero_mul]
  rw [Finset.sum_ite_eq' Finset.univ ⟨w, hw⟩ T, if_pos (Finset.mem_univ _)]

theorem angle_row (hT : ∀ (r h : Fin 256), r.val ≤ 180 → x4 (ix2 r h) = lin Wa ba (fifteenths r.val) h) (w : ℕ) (hw : w ≤ 180) (h : Fin 256) :
    (∑ k : Fin 256, FloatOps.sitofp (F := Ideal) .f32 (BitVec.setWidth 32 (IntOp.cmpi .eq (BitVec.ofNat 32 k.val) (BitVec.ofNat 32 w)))
      * x4 (ix2 k h)) = lin Wa ba (fifteenths w) h :=
  (one_hot_row (fun k => x4 (ix2 k h)) w (by omega)).trans (hT ⟨w, by omega⟩ h hw)

theorem two_angles (hT : ∀ (r h : Fin 256), r.val ≤ 180 → x4 (ix2 r h) = lin Wa ba (fifteenths r.val) h)
    (h1 : x1 (ix2 q 0) = BitVec.ofNat 32 b₁) (l1 : b₁ ≤ 180) (h2 : x2 (ix2 q 0) = BitVec.ofNat 32 b₂) (l2 : b₂ ≤ 180) (h : Fin 256) :
    k1_pay4 x4 x1 x2 (ix2 q h) = max (lin Wa ba (fifteenths b₁) h) (lin Wa ba (fifteenths b₂) h) := by
  have e1 := angle_row x4 Wa ba hT b₁ l1 h
  have e2 := angle_row x4 Wa ba hT b₂ l2 h
  pointwise [k1_pay4, k1_pay3, h1, h2, e1, e2]

theorem normalised_row (v19 : FVec Ideal S2048x256 .f32) (v37 : FVec Ideal S2048x256 .f32) (z : Fin 256 → EReal)
    (hT : ∀ (r h : Fin 256), r.val ≤ 180 → x4 (ix2 r h) = lin Wa ba (fifteenths r.val) h)
    (h3 : x3 (ix2 q 0) = BitVec.ofNat 32 b₃) (l3 : b₃ ≤ 180)
    (hz : ∀ h, v19 (ix2 q h) + max (v37 (ix2 q h)) (lin Wa ba (fifteenths b₃) h) = z h)
    (hW : ∀ k h, x7 (ix2 k h) = We h k) (hb : ∀ h, x8 (ix2 0 h) = be h) (hg : ∀ h, x9 (ix2 0 h) = g h) (hs : ∀ h, x10 (ix2 0 h) = b h)
    (h : Fin 256) :
    k1_pay1 (k1_pay6 v19 (iota .tc S2048x256 32 [1] iota_S2048x256_d1_w32) (k1_pay3 x4) v37 (k1_pay5 x3) x7 x8 x9) x10 (ix2 q h)
      = normalise (dense We be z) g b h := by
  have e3 := angle_row x4 Wa ba hT b₃ l3
  pointwise [k1_pay1, k1_pay6, k1_pay3, k1_pay5, h3, e3, hz, hW, hb, hg, hs]
  rfl

/-- The block's row: the normalised dense layer of the pair's distance and bins. -/
theorem block_row (hd : x0 (ix2 q 0) = d) (h1 : x1 (ix2 q 0) = BitVec.ofNat 32 b₁) (l1 : b₁ ≤ 180)
    (h2 : x2 (ix2 q 0) = BitVec.ofNat 32 b₂) (l2 : b₂ ≤ 180) (h3 : x3 (ix2 q 0) = BitVec.ofNat 32 b₃) (l3 : b₃ ≤ 180)
    (hT : ∀ (r h : Fin 256), r.val ≤ 180 → x4 (ix2 r h) = lin Wa ba (fifteenths r.val) h)
    (hWd : ∀ k h, x5 (ix2 k h) = Wd h (place k)) (hbd : ∀ h, x6 (ix2 0 h) = bd h)
    (hW : ∀ k h, x7 (ix2 k h) = We h k) (hb : ∀ h, x8 (ix2 0 h) = be h) (hg : ∀ h, x9 (ix2 0 h) = g h) (hs : ∀ h, x10 (ix2 0 h) = b h)
    (h : Fin 256) :
    out1_11 x0 x1 x2 x3 x4 x5 x6 x7 x8 x9 x10 (ix2 q h) = normalise (dense We be (mixed Wd bd Wa ba d b₁ b₂ b₃)) g b h := by
  have z1 : (![0, 0] : Fin 2 → ℕ) = fun _ => 0 := by funext a; fin_cases a <;> rfl
  unfold out1_11
  rw [View.canon_unit_zero z1]
  simp only [View.ld_unit_zero (S := S2048x1) z1, View.ld_unit_zero (S := S256x256) z1, View.ld_unit_zero (S := S1x256) z1]
  refine normalised_row x3 x4 x7 x8 x9 x10 Wa ba We be g b b₃ q _ _ _ hT h3 l3 (fun h => ?_) hW hb hg hs h
  rw [distance_embedding x0 x5 x6 Wd bd d q hd hWd hbd, two_angles x1 x2 x4 Wa ba b₁ b₂ q hT h1 l1 h2 l2]
  rfl

end Cert.KernelValue

end
-- ==== Proof.KernelArrays.lean ====
/- The arrays the two kernels leave, from the arrays they are entered with. -/
module

public import proofs.«01_k».proof.Proof.KernelDense
public import Idealize.ShloMosaic.Lib.Pipeline.ValueKit

@[expose] public section

noncomputable section

namespace Cert.KernelValue

open Cert.KernelIdeal Cert.KernelIdeal.Gen Cert.Geo Idealize.ShloMosaic Idealize.ShloMosaic.TcCoe

variable (V : (c : Dev nD) → (b : Ref sig .tc) → Buf (Elt Ideal) ((c : Thread nD τ).loc b)) (c : Dev nD)

/-! ## The first kernel: one point, every block a whole array -/

theorem first_block0 (t : Fin cfg0.N) : (iblk0 V c 0 t : Vec Ideal S256x3 .f32) = V c main_v0 := by
  have at0 : ∀ (t : Fin cfg0.N) (a : Fin 2), win0_0.index t a = 0 := by decide +kernel
  funext x
  blk_simp [iblk0]
  congr 1
  blk_ext [at0]

theorem first_block1 (t : Fin cfg0.N) : (iblk0 V c 1 t : Vec Ideal S3x256 .f32) = V c main_v1 := by
  have at0 : ∀ (t : Fin cfg0.N) (a : Fin 2), win0_1.index t a = 0 := by decide +kernel
  funext x
  blk_simp [iblk0]
  congr 1
  blk_ext [at0]

theorem first_block2 (t : Fin cfg0.N) : (iblk0 V c 2 t : Vec Ideal S256x256 .f32) = V c main_v8 := by
  have at0 : ∀ (t : Fin cfg0.N) (a : Fin 2), win0_2.index t a = 0 := by decide +kernel
  funext x
  blk_simp [iblk0]
  congr 1
  blk_ext [at0]

theorem first_block3 (t : Fin cfg0.N) : (iblk0 V c 3 t : Vec Ideal S1x256 .f32) = V c main_v17 := by
  have at0 : ∀ (t : Fin cfg0.N) (a : Fin 2), win0_3.index t a = 0 := by decide +kernel
  funext x
  blk_simp [iblk0]
  congr 1
  blk_ext [at0]

theorem first_array4 : ((dat0 V c).arrAt 4 cfg0.N : Vec Ideal S256x256 .f32)
    = out0_4 (F := Ideal) (V c main_v0) (V c main_v1) (V c main_v8) (V c main_v17) := by
  have at0 : ∀ (t : Fin cfg0.N) (a : Fin 2), win0_4.index t a = 0 := by decide +kernel
  refine (dat0 V c).arrAt_eq_of_covers 4 _ (by decide +kernel) fun t hf y => ?_
  blk_simp
  rw [after0_4, first_block0, first_block1, first_block2, first_block3]
  congr 1
  blk_ext [at0]

theorem first_array5 : ((dat0 V c).arrAt 5 cfg0.N : Vec Ideal S256x256 .i32)
    = out0_5 (F := Ideal) (V c main_v0) (V c main_v1) (V c main_v8) (V c main_v17) := by
  have at0 : ∀ (t : Fin cfg0.N) (a : Fin 2), win0_5.index t a = 0 := by decide +kernel
  refine (dat0 V c).arrAt_eq_of_covers 5 _ (by decide +kernel) fun t hf y => ?_
  blk_simp
  rw [after0_5, first_block0, first_block1, first_block2, first_block3]
  congr 1
  blk_ext [at0]

theorem first_array6 : ((dat0 V c).arrAt 6 cfg0.N : Vec Ideal S256x256 .i32)
    = out0_6 (F := Ideal) (V c main_v0) (V c main_v1) (V c main_v8) (V c main_v17) := by
  have at0 : ∀ (t : Fin cfg0.N) (a : Fin 2), win0_6.index t a = 0 := by decide +kernel
  refine (dat0 V c).arrAt_eq_of_covers 6 _ (by decide +kernel) fun t hf y => ?_
  blk_simp
  rw [after0_6, first_block0, first_block1, first_block2, first_block3]
  congr 1
  blk_ext [at0]

theorem first_array7 : ((dat0 V c).arrAt 7 cfg0.N : Vec Ideal S256x256 .i32)
    = out0_7 (F := Ideal) (V c main_v0) (V c main_v1) (V c main_v8) (V c main_v17) := by
  have at0 : ∀ (t : Fin cfg0.N) (a : Fin 2), win0_7.index t a = 0 := by decide +kernel
  refine (dat0 V c).arrAt_eq_of_covers 7 _ (by decide +kernel) fun t hf y => ?_
  blk_simp
  rw [after0_7, first_block0, first_block1, first_block2, first_block3]
  congr 1
  blk_ext [at0]

theorem first_array8 : ((dat0 V c).arrAt 8 cfg0.N : Vec Ideal S256x256 .f32)
    = out0_8 (F := Ideal) (V c main_v0) (V c main_v1) (V c main_v8) (V c main_v17) := by
  have at0 : ∀ (t : Fin cfg0.N) (a : Fin 2), win0_8.index t a = 0 := by decide +kernel
  refine (dat0 V c).arrAt_eq_of_covers 8 _ (by decide +kernel) fun t hf y => ?_
  blk_simp
  rw [after0_8, first_block0, first_block1, first_block2, first_block3]
  congr 1
  blk_ext [at0]

/-! ## The second kernel: block `t` is rows `2048 t` to `2048 t + 2047` -/

theorem second_block0 (t : Fin cfg1.N) (q : Fin 2048) (r : Fin 65536) (hr : r.val = 2048 * t.val + q.val) :
    (iblk1 V c 0 t : Vec Ideal S2048x1 .f32) (ix2 q 0) = (V c main_v19 : Vec Ideal S65536x1 .f32) (ix2 r 0) := by
  have at0 : ∀ t : Fin cfg1.N, win1_0.index t 0 = t.val := by decide +kernel
  have at1 : ∀ t : Fin cfg1.N, win1_0.index t 1 = 0 := by decide +kernel
  blk_simp [iblk1]
  congr 1
  blk_ext [at0, at1]

theorem second_block1 (t : Fin cfg1.N) (q : Fin 2048) (r : Fin 65536) (hr : r.val = 2048 * t.val + q.val) :
    (iblk1 V c 1 t : Vec Ideal S2048x1 .i32) (ix2 q 0) = (V c main_v20 : Vec Ideal S65536x1 .i32) (ix2 r 0) := by
  have at0 : ∀ t : Fin cfg1.N, win1_1.index t 0 = t.val := by decide +kernel
  have at1 : ∀ t : Fin cfg1.N, win1_1.index t 1 = 0 := by decide +kernel
  blk_simp [iblk1]
  congr 1
  blk_ext [at0, at1]

theorem second_block2 (t : Fin cfg1.N) (q : Fin 2048) (r : Fin 65536) (hr : r.val = 2048 * t.val + q.val) :
    (iblk1 V c 2 t : Vec Ideal S2048x1 .i32) (ix2 q 0) = (V c main_v21 : Vec Ideal S65536x1 .i32) (ix2 r 0) := by
  have at0 : ∀ t : Fin cfg1.N, win1_2.index t 0 = t.val := by decide +kernel
  have at1 : ∀ t : Fin cfg1.N, win1_2.index t 1 = 0 := by decide +kernel
  blk_simp [iblk1]
  congr 1
  blk_ext [at0, at1]

theorem second_block3 (t : Fin cfg1.N) (q : Fin 2048) (r : Fin 65536) (hr : r.val = 2048 * t.val + q.val) :
    (iblk1 V c 3 t : Vec Ideal S2048x1 .i32) (ix2 q 0) = (V c main_v22 : Vec Ideal S65536x1 .i32) (ix2 r 0) := by
  have at0 : ∀ t : Fin cfg1.N, win1_3.index t 0 = t.val := by decide +kernel
  have at1 : ∀ t : Fin cfg1.N, win1_3.index t 1 = 0 := by decide +kernel
  blk_simp [iblk1]
  congr 1
  blk_ext [at0, at1]

theorem second_block4 (t : Fin cfg1.N) : (iblk1 V c 4 t : Vec Ideal S256x256 .f32) = V c main_v18_4 := by
  have at0 : ∀ (t : Fin cfg1.N) (a : Fin 2), win1_4.index t a = 0 := by decide +kernel
  funext x
  blk_simp [iblk1]
  congr 1
  blk_ext [at0]

theorem second_block5 (t : Fin cfg1.N) : (iblk1 V c 5 t : Vec Ideal S256x256 .f32) = V c main_v15 := by
  have at0 : ∀ (t : Fin cfg1.N) (a : Fin 2), win1_5.index t a = 0 := by decide +kernel
  funext x
  blk_simp [iblk1]
  congr 1
  blk_ext [at0]

theorem second_block6 (t : Fin cfg1.N) : (iblk1 V c 6 t : Vec Ideal S1x256 .f32) = V c main_v23 := by
  have at0 : ∀ (t : Fin cfg1.N) (a : Fin 2), win1_6.index t a = 0 := by decide +kernel
  funext x
  blk_simp [iblk1]
  congr 1
  blk_ext [at0]

theorem second_block7 (t : Fin cfg1.N) : (iblk1 V c 7 t : Vec Ideal S256x256 .f32) = V c main_v16 := by
  have at0 : ∀ (t : Fin cfg1.N) (a : Fin 2), win1_7.index t a = 0 := by decide +kernel
  funext x
  blk_simp [iblk1]
  congr 1
  blk_ext [at0]

theorem second_block8 (t : Fin cfg1.N) : (iblk1 V c 8 t : Vec Ideal S1x256 .f32) = V c main_v24 := by
  have at0 : ∀ (t : Fin cfg1.N) (a : Fin 2), win1_8.index t a = 0 := by decide +kernel
  funext x
  blk_simp [iblk1]
  congr 1
  blk_ext [at0]

theorem second_block9 (t : Fin cfg1.N) : (iblk1 V c 9 t : Vec Ideal S1x256 .f32) = V c main_v25 := by
  have at0 : ∀ (t : Fin cfg1.N) (a : Fin 2), win1_9.index t a = 0 := by decide +kernel
  funext x
  blk_simp [iblk1]
  congr 1
  blk_ext [at0]

theorem second_block10 (t : Fin cfg1.N) : (iblk1 V c 10 t : Vec Ideal S1x256 .f32) = V c main_v26 := by
  have at0 : ∀ (t : Fin cfg1.N) (a : Fin 2), win1_10.index t a = 0 := by decide +kernel
  funext x
  blk_simp [iblk1]
  congr 1
  blk_ext [at0]

variable (Wd : Fin 256 → Fin 256 → EReal) (bd : Fin 256 → EReal) (Wa : Fin 256 → Fin 256 → EReal) (ba : Fin 256 → EReal)
  (We : Fin 256 → Fin 256 → EReal) (be g b : Fin 256 → EReal) (d : Fin 65536 → EReal) (b₁ b₂ b₃ : Fin 65536 → ℕ)

/-- The second kernel's array: each row the normalised dense layer of that row's distance and bins. -/
theorem second_array
    (hd : ∀ r, (V c main_v19 : Vec Ideal S65536x1 .f32) (ix2 r 0) = d r)
    (h1 : ∀ r, (V c main_v20 : Vec Ideal S65536x1 .i32) (ix2 r 0) = BitVec.ofNat 32 (b₁ r)) (l1 : ∀ r, b₁ r ≤ 180)
    (h2 : ∀ r, (V c main_v21 : Vec Ideal S65536x1 .i32) (ix2 r 0) = BitVec.ofNat 32 (b₂ r)) (l2 : ∀ r, b₂ r ≤ 180)
    (h3 : ∀ r, (V c main_v22 : Vec Ideal S65536x1 .i32) (ix2 r 0) = BitVec.ofNat 32 (b₃ r)) (l3 : ∀ r, b₃ r ≤ 180)
    (hT : ∀ r h : Fin 256, r.val ≤ 180 → (V c main_v18_4 : Vec Ideal S256x256 .f32) (ix2 r h) = lin Wa ba (fifteenths r.val) h)
    (hWd : ∀ k h, (V c main_v15 : Vec Ideal S256x256 .f32) (ix2 k h) = Wd h (place k))
    (hbd : ∀ h, (V c main_v23 : Vec Ideal S1x256 .f32) (ix2 0 h) = bd h)
    (hWe : ∀ k h, (V c main_v16 : Vec Ideal S256x256 .f32) (ix2 k h) = We h k)
    (hbe : ∀ h, (V c main_v24 : Vec Ideal S1x256 .f32) (ix2 0 h) = be h)
    (hg : ∀ h, (V c main_v25 : Vec Ideal S1x256 .f32) (ix2 0 h) = g h)
    (hb : ∀ h, (V c main_v26 : Vec Ideal S1x256 .f32) (ix2 0 h) = b h) (r : Fin 65536) (h : Fin 256) :
    ((dat1 V c).arrAt 11 cfg1.N : Vec Ideal S65536x256 .f32) (ix2 r h)
      = normalise (dense We be (mixed Wd bd Wa ba (d r) (b₁ r) (b₂ r) (b₃ r))) g b h := by
  have at0 : ∀ t : Fin cfg1.N, win1_11.index t 0 = t.val := by decide +kernel
  have at1 : ∀ t : Fin cfg1.N, win1_11.index t 1 = 0 := by decide +kernel
  have e : ((dat1 V c).arrAt 11 cfg1.N : Vec Ideal S65536x256 .f32)
      = fun i => normalise (dense We be (mixed Wd bd Wa ba (d (i 0)) (b₁ (i 0)) (b₂ (i 0)) (b₃ (i 0)))) g b (i 1) := by
    refine (dat1 V c).arrAt_eq_of_covers 11 _ (by decide +kernel) fun t hf y => ?_
    have ht : t.val < 32 := t.isLt
    have row : (((win1_11.blk t).view.emb y 0 : Fin 65536) : ℕ) = 2048 * t.val + (y 0).val := by
      blk_simp [at0]
      omega
    have col : ((win1_11.blk t).view.emb y 1 : Fin 256) = y 1 := by
      apply Fin.ext
      blk_simp [at1]
    blk_simp
    rw [after1_11]
    have hy : y = ix2 (y 0) (y 1) := eq_ix2 y
    rw [hy]
    refine (block_row _ _ _ _ _ _ _ _ _ _ _ Wd bd Wa ba We be g b _ _ _ _ (y 0)
      ((second_block0 V c t _ _ row).trans (hd _)) ((second_block1 V c t _ _ row).trans (h1 _)) (l1 _)
      ((second_block2 V c t _ _ row).trans (h2 _)) (l2 _) ((second_block3 V c t _ _ row).trans (h3 _)) (l3 _)
      (by rw [second_block4]; exact hT) (by rw [second_block5]; exact hWd) (by rw [second_block6]; exact hbd)
      (by rw [second_block7]; exact hWe) (by rw [second_block8]; exact hbe) (by rw [second_block9]; exact hg)
      (by rw [second_block10]; exact hb) (y 1)).trans ?_
    rw [← hy, col]
  rw [e]
  rfl

end Cert.KernelValue

end
-- ==== Proof.KernelHost.lean ====
/- What the operations around the two kernels hand on, at coordinates. -/
module

public import proofs.«01_k».proof.Proof.Gen.KernelIdeal.Frame
public import proofs.«01_k».proof.Proof.Args
public import Idealize.ShloMosaic.Lib.Claim

@[expose] public section

noncomputable section

namespace Cert.KernelValue

open Cert.KernelIdeal Cert.KernelIdeal.Gen Cert.Geo Idealize.ShloMosaic Idealize.ShloMosaic.TcCoe Idealize.ShloMosaic.StableHlo

/-- A weight matrix transposed, its even rows before its odd rows. -/
def halvesOf (x : Vec Ideal S256x256 .f32) : Vec Ideal S256x256 .f32 :=
  concatenate S256x256 0
    [⟨S128x256, shapeCast S128x256 (extractStridedSlice S128x1x256 ![0, 0, 0]
        (shapeCast S128x2x256 (transpose S256x256 [1, 0] x transposes_S256x256_S256x256_1_0) shapeCasts_S256x256_S128x2x256)
        slices_S128x2x256_S128x1x256_0_0_0) shapeCasts_S128x1x256_S128x256⟩,
     ⟨S128x256, shapeCast S128x256 (extractStridedSlice S128x1x256 ![0, 1, 0]
        (shapeCast S128x2x256 (transpose S256x256 [1, 0] x transposes_S256x256_S256x256_1_0) shapeCasts_S256x256_S128x2x256)
        slices_S128x2x256_S128x1x256_0_1_0) shapeCasts_S128x1x256_S128x256⟩]
    concatenates_S128x256_S128x256_S256x256_d0

/-- Row `m` of parity `s` of the pairs of rows is row `2 m + s`. -/
theorem pairs_value (x : Vec Ideal S256x256 .f32) (u : Fin 128) (s : Fin 2) (h : Fin 256) (k : Fin 256) (hk : k.val = 2 * u.val + s.val) :
    shapeCast S128x2x256 (transpose S256x256 [1, 0] x transposes_S256x256_S256x256_1_0) shapeCasts_S256x256_S128x2x256 (ix3 u s h)
      = x (ix2 h k) := by
  rw [shapeCast_apply _ _ (ix3 u s h) (ix2 k h) (by
    rw [Shape.rowMajor_val_two, Shape.rowMajor_val_three]
    show k.val * 256 + h.val = (u.val * 2 + s.val) * 256 + h.val
    omega)]
  pointwise []

theorem halvesOf_value (x : Vec Ideal S256x256 .f32) (k h : Fin 256) : halvesOf x (ix2 k h) = x (ix2 h (place k)) := by
  unfold place
  by_cases hk : k.val < 128
  · rw [dif_pos hk]
    rw [← pairs_value x ⟨k.val, hk⟩ 0 h ⟨2 * k.val, by omega⟩ (by simp)]
    unfold halvesOf
    generalize shapeCast S128x2x256 _ _ = y
    pointwise [hk]
    all_goals rfl
  · rw [dif_neg hk]
    rw [← pairs_value x ⟨k.val - 128, by omega⟩ 1 h ⟨2 * (k.val - 128) + 1, by omega⟩ (by simp)]
    unfold halvesOf
    generalize shapeCast S128x2x256 _ _ = y
    pointwise [hk]
    all_goals rfl

variable (F : Valuation τ sig (Elt Ideal))

theorem points_value (i : Fin 256) (a : Fin 3) : (after hostOps0 F (Proc.devRef .tc main_v0) : Vec Ideal S256x3 .f32) (ix2 i a)
    = (F (Proc.devRef .tc main_arg0) : Vec Ideal S1x256x3 .f32) (ix3 0 i a) := by
  have e : (after hostOps0 F (Proc.devRef .tc main_v0) : Vec Ideal S256x3 .f32) = shapeCast S256x3 (F (Proc.devRef .tc main_arg0) : Vec Ideal S1x256x3 .f32) shapeCasts_S1x256x3_S256x3 := by
    after_results
    try rfl
  rw [e]
  rw [shapeCast_apply _ _ (ix2 i a) (ix3 0 i a) (by
    rw [Shape.rowMajor_val_two, Shape.rowMajor_val_three]
    show (0 * 256 + i.val) * 3 + a.val = i.val * 3 + a.val
    omega)]

theorem points_transposed (i : Fin 256) (a : Fin 3) : (after hostOps0 F (Proc.devRef .tc main_v1) : Vec Ideal S3x256 .f32) (ix2 a i)
    = (F (Proc.devRef .tc main_arg0) : Vec Ideal S1x256x3 .f32) (ix3 0 i a) := by
  have e : (after hostOps0 F (Proc.devRef .tc main_v1) : Vec Ideal S3x256 .f32) = transpose S3x256 [1, 0] (shapeCast S256x3 (F (Proc.devRef .tc main_arg0) : Vec Ideal S1x256x3 .f32) shapeCasts_S1x256x3_S256x3) transposes_S256x3_S3x256_1_0 := by
    after_results
    try rfl
  rw [e]
  rw [← points_value F i a]
  have e0 : (after hostOps0 F (Proc.devRef .tc main_v0) : Vec Ideal S256x3 .f32) = shapeCast S256x3 (F (Proc.devRef .tc main_arg0) : Vec Ideal S1x256x3 .f32) shapeCasts_S1x256x3_S256x3 := by
    after_results
    try rfl
  rw [e0]
  generalize shapeCast S256x3 _ _ = y
  pointwise []

theorem angle_weights (k h : Fin 256) : (after hostOps0 F (Proc.devRef .tc main_v8) : Vec Ideal S256x256 .f32) (ix2 k h)
    = (F (Proc.devRef .tc main_arg3) : Vec Ideal S256x256 .f32) (ix2 h (place k)) := by
  have e : (after hostOps0 F (Proc.devRef .tc main_v8) : Vec Ideal S256x256 .f32) = halvesOf (F (Proc.devRef .tc main_arg3)) := by
    after_results
    try rfl
  rw [e]
  exact halvesOf_value _ k h

theorem distance_weights (k h : Fin 256) : (after hostOps0 F (Proc.devRef .tc main_v15) : Vec Ideal S256x256 .f32) (ix2 k h)
    = (F (Proc.devRef .tc main_arg1) : Vec Ideal S256x256 .f32) (ix2 h (place k)) := by
  have e : (after hostOps0 F (Proc.devRef .tc main_v15) : Vec Ideal S256x256 .f32) = halvesOf (F (Proc.devRef .tc main_arg1)) := by
    after_results
    try rfl
  rw [e]
  exact halvesOf_value _ k h

theorem dense_weights (k h : Fin 256) : (after hostOps0 F (Proc.devRef .tc main_v16) : Vec Ideal S256x256 .f32) (ix2 k h)
    = (F (Proc.devRef .tc main_arg5) : Vec Ideal S256x256 .f32) (ix2 h k) := by
  have e : (after hostOps0 F (Proc.devRef .tc main_v16) : Vec Ideal S256x256 .f32) = transpose S256x256 [1, 0] (F (Proc.devRef .tc main_arg5) : Vec Ideal S256x256 .f32) transposes_S256x256_S256x256_1_0 := by
    after_results
    try rfl
  rw [e]
  pointwise []

theorem angle_bias (h : Fin 256) : (after hostOps0 F (Proc.devRef .tc main_v17) : Vec Ideal S1x256 .f32) (ix2 0 h)
    = (F (Proc.devRef .tc main_arg4) : Vec Ideal S256 .f32) (ix1 h) := by
  have e : (after hostOps0 F (Proc.devRef .tc main_v17) : Vec Ideal S1x256 .f32) = shapeCast S1x256 (F (Proc.devRef .tc main_arg4) : Vec Ideal S256 .f32) shapeCasts_S256_S1x256 := by
    after_results
    try rfl
  rw [e]
  rw [shapeCast_apply _ _ (ix2 0 h) (ix1 h) (by
    rw [Shape.rowMajor_val_two, Shape.rowMajor_val_one]
    show h.val = 0 * 256 + h.val
    omega)]

theorem distance_bias (h : Fin 256) : (after hostOps1 F (Proc.devRef .tc main_v23) : Vec Ideal S1x256 .f32) (ix2 0 h)
    = (F (Proc.devRef .tc main_arg2) : Vec Ideal S256 .f32) (ix1 h) := by
  have e : (after hostOps1 F (Proc.devRef .tc main_v23) : Vec Ideal S1x256 .f32) = shapeCast S1x256 (F (Proc.devRef .tc main_arg2) : Vec Ideal S256 .f32) shapeCasts_S256_S1x256 := by
    after_results
    try rfl
  rw [e]
  rw [shapeCast_apply _ _ (ix2 0 h) (ix1 h) (by
    rw [Shape.rowMajor_val_two, Shape.rowMajor_val_one]
    show h.val = 0 * 256 + h.val
    omega)]

theorem dense_bias (h : Fin 256) : (after hostOps1 F (Proc.devRef .tc main_v24) : Vec Ideal S1x256 .f32) (ix2 0 h)
    = (F (Proc.devRef .tc main_arg6) : Vec Ideal S256 .f32) (ix1 h) := by
  have e : (after hostOps1 F (Proc.devRef .tc main_v24) : Vec Ideal S1x256 .f32) = shapeCast S1x256 (F (Proc.devRef .tc main_arg6) : Vec Ideal S256 .f32) shapeCasts_S256_S1x256 := by
    after_results
    try rfl
  rw [e]
  rw [shapeCast_apply _ _ (ix2 0 h) (ix1 h) (by
    rw [Shape.rowMajor_val_two, Shape.rowMajor_val_one]
    show h.val = 0 * 256 + h.val
    omega)]

theorem scale_value (h : Fin 256) : (after hostOps1 F (Proc.devRef .tc main_v25) : Vec Ideal S1x256 .f32) (ix2 0 h)
    = (F (Proc.devRef .tc main_arg7) : Vec Ideal S256 .f32) (ix1 h) := by
  have e : (after hostOps1 F (Proc.devRef .tc main_v25) : Vec Ideal S1x256 .f32) = shapeCast S1x256 (F (Proc.devRef .tc main_arg7) : Vec Ideal S256 .f32) shapeCasts_S256_S1x256 := by
    after_results
    try rfl
  rw [e]
  rw [shapeCast_apply _ _ (ix2 0 h) (ix1 h) (by
    rw [Shape.rowMajor_val_two, Shape.rowMajor_val_one]
    show h.val = 0 * 256 + h.val
    omega)]

theorem shift_value (h : Fin 256) : (after hostOps1 F (Proc.devRef .tc main_v26) : Vec Ideal S1x256 .f32) (ix2 0 h)
    = (F (Proc.devRef .tc main_arg8) : Vec Ideal S256 .f32) (ix1 h) := by
  have e : (after hostOps1 F (Proc.devRef .tc main_v26) : Vec Ideal S1x256 .f32) = shapeCast S1x256 (F (Proc.devRef .tc main_arg8) : Vec Ideal S256 .f32) shapeCasts_S256_S1x256 := by
    after_results
    try rfl
  rw [e]
  rw [shapeCast_apply _ _ (ix2 0 h) (ix1 h) (by
    rw [Shape.rowMajor_val_two, Shape.rowMajor_val_one]
    show h.val = 0 * 256 + h.val
    omega)]

theorem distance_column (i j : Fin 256) (r : Fin 65536) (hr : r.val = i.val * 256 + j.val) : (after hostOps1 F (Proc.devRef .tc main_v19) : Vec Ideal S65536x1 .f32) (ix2 r 0)
    = (F (Proc.devRef .tc main_v18_0) : Vec Ideal S256x256 .f32) (ix2 i j) := by
  have e : (after hostOps1 F (Proc.devRef .tc main_v19) : Vec Ideal S65536x1 .f32) = shapeCast S65536x1 (F (Proc.devRef .tc main_v18_0) : Vec Ideal S256x256 .f32) shapeCasts_S256x256_S65536x1 := by
    after_results
    try rfl
  rw [e]
  rw [shapeCast_apply _ _ (ix2 r 0) (ix2 i j) (by
    rw [Shape.rowMajor_val_two, Shape.rowMajor_val_two]
    show i.val * 256 + j.val = r.val * 1 + 0
    omega)]

theorem first_bin_column (i j : Fin 256) (r : Fin 65536) (hr : r.val = i.val * 256 + j.val) : (after hostOps1 F (Proc.devRef .tc main_v20) : Vec Ideal S65536x1 .i32) (ix2 r 0)
    = (F (Proc.devRef .tc main_v18_1) : Vec Ideal S256x256 .i32) (ix2 i j) := by
  have e : (after hostOps1 F (Proc.devRef .tc main_v20) : Vec Ideal S65536x1 .i32) = shapeCast S65536x1 (F (Proc.devRef .tc main_v18_1) : Vec Ideal S256x256 .i32) shapeCasts_S256x256_S65536x1 := by
    after_results
    try rfl
  rw [e]
  rw [shapeCast_apply _ _ (ix2 r 0) (ix2 i j) (by
    rw [Shape.rowMajor_val_two, Shape.rowMajor_val_two]
    show i.val * 256 + j.val = r.val * 1 + 0
    omega)]

theorem second_bin_column (i j : Fin 256) (r : Fin 65536) (hr : r.val = i.val * 256 + j.val) : (after hostOps1 F (Proc.devRef .tc main_v21) : Vec Ideal S65536x1 .i32) (ix2 r 0)
    = (F (Proc.devRef .tc main_v18_2) : Vec Ideal S256x256 .i32) (ix2 i j) := by
  have e : (after hostOps1 F (Proc.devRef .tc main_v21) : Vec Ideal S65536x1 .i32) = shapeCast S65536x1 (F (Proc.devRef .tc main_v18_2) : Vec Ideal S256x256 .i32) shapeCasts_S256x256_S65536x1 := by
    after_results
    try rfl
  rw [e]
  rw [shapeCast_apply _ _ (ix2 r 0) (ix2 i j) (by
    rw [Shape.rowMajor_val_two, Shape.rowMajor_val_two]
    show i.val * 256 + j.val = r.val * 1 + 0
    omega)]

theorem third_bin_column (i j : Fin 256) (r : Fin 65536) (hr : r.val = i.val * 256 + j.val) : (after hostOps1 F (Proc.devRef .tc main_v22) : Vec Ideal S65536x1 .i32) (ix2 r 0)
    = (F (Proc.devRef .tc main_v18_3) : Vec Ideal S256x256 .i32) (ix2 i j) := by
  have e : (after hostOps1 F (Proc.devRef .tc main_v22) : Vec Ideal S65536x1 .i32) = shapeCast S65536x1 (F (Proc.devRef .tc main_v18_3) : Vec Ideal S256x256 .i32) shapeCasts_S256x256_S65536x1 := by
    after_results
    try rfl
  rw [e]
  rw [shapeCast_apply _ _ (ix2 r 0) (ix2 i j) (by
    rw [Shape.rowMajor_val_two, Shape.rowMajor_val_two]
    show i.val * 256 + j.val = r.val * 1 + 0
    omega)]

theorem result_rows (i j h : Fin 256) (r : Fin 65536) (hr : r.val = i.val * 256 + j.val) : (after hostOps2 F (Proc.devRef .tc main_v28) : Vec Ideal S1x256x256x256 .f32) (ix4 0 i j h)
    = (F (Proc.devRef .tc main_v27) : Vec Ideal S65536x256 .f32) (ix2 r h) := by
  have e : (after hostOps2 F (Proc.devRef .tc main_v28) : Vec Ideal S1x256x256x256 .f32) = shapeCast S1x256x256x256 (F (Proc.devRef .tc main_v27) : Vec Ideal S65536x256 .f32) shapeCasts_S65536x256_S1x256x256x256 := by
    after_results
    try rfl
  rw [e]
  rw [shapeCast_apply _ _ (ix4 0 i j h) (ix2 r h) (by
    rw [Shape.rowMajor_val_two, Shape.rowMajor_val_four]
    show r.val * 256 + h.val = ((0 * 256 + i.val) * 256 + j.val) * 256 + h.val
    omega)]

end Cert.KernelValue

end
-- ==== Proof.KernelValue.lean ====
/- The kernel program's result, at coordinates. -/
module

public import proofs.«01_k».proof.Proof.KernelRun
public import proofs.«01_k».proof.Proof.KernelArrays
public import proofs.«01_k».proof.Proof.KernelHost

@[expose] public section

noncomputable section

namespace Cert.KernelValue

open Cert.KernelIdeal Cert.KernelIdeal.Gen Cert.Geo Idealize.ShloMosaic Idealize.ShloMosaic.TcCoe

/-! ## A row of the flattened pairs -/

/-- The first point of row `r`. -/
def rowOf (r : Fin 65536) : Fin 256 := ⟨r.val / 256, by omega⟩

/-- The second point of row `r`. -/
def colOf (r : Fin 65536) : Fin 256 := ⟨r.val % 256, by omega⟩

theorem row_split (r : Fin 65536) : r.val = (rowOf r).val * 256 + (colOf r).val := by
  show r.val = r.val / 256 * 256 + r.val % 256
  omega

variable (m : (ℓ : Loc nD τ sig) → Buf (Elt Ideal) ℓ) (ρ : Dev nD → PrngReg) (c : Dev nD)

/-! ## The arguments -/

abbrev arg0 : Vec Ideal S1x256x3 .f32 := m ((c : Thread nD τ).loc main_arg0)
abbrev arg1 : Vec Ideal S256x256 .f32 := m ((c : Thread nD τ).loc main_arg1)
abbrev arg2 : Vec Ideal S256 .f32 := m ((c : Thread nD τ).loc main_arg2)
abbrev arg3 : Vec Ideal S256x256 .f32 := m ((c : Thread nD τ).loc main_arg3)
abbrev arg4 : Vec Ideal S256 .f32 := m ((c : Thread nD τ).loc main_arg4)
abbrev arg5 : Vec Ideal S256x256 .f32 := m ((c : Thread nD τ).loc main_arg5)
abbrev arg6 : Vec Ideal S256 .f32 := m ((c : Thread nD τ).loc main_arg6)
abbrev arg7 : Vec Ideal S256 .f32 := m ((c : Thread nD τ).loc main_arg7)
abbrev arg8 : Vec Ideal S256 .f32 := m ((c : Thread nD τ).loc main_arg8)

/-! ## The first kernel's arrays -/

theorem entry_points (i : Fin 256) (a : Fin 3) : (V1 m ρ c main_v0 : Vec Ideal S256x3 .f32) (ix2 i a) = pts (arg0 m c) i a :=
  points_value (W0 m ρ c) i a

theorem entry_transposed (i : Fin 256) (a : Fin 3) : (V1 m ρ c main_v1 : Vec Ideal S3x256 .f32) (ix2 a i) = pts (arg0 m c) i a :=
  points_transposed (W0 m ρ c) i a

theorem exit_distance (i j : Fin 256) : (W2 m ρ c (Proc.devRef .tc main_v18_0) : Vec Ideal S256x256 .f32) (ix2 i j)
    = Ideal.div (dist (pts (arg0 m c)) i j) (Ideal.ofBits .f32 0x3E4CCCCD#32) :=
  (congrFun ((W2_arr m ρ c 4).trans (first_array4 (V1 m ρ) c)) _).trans
    (scaled_value _ _ _ _ _ (entry_points m ρ c) (entry_transposed m ρ c) i j)

theorem exit_bin_one (i j : Fin 256) : (W2 m ρ c (Proc.devRef .tc main_v18_1) : Vec Ideal S256x256 .i32) (ix2 i j)
    = bin (pts (arg0 m c)) 1 i j :=
  (congrFun ((W2_arr m ρ c 5).trans (first_array5 (V1 m ρ) c)) _).trans
    (bin_one _ _ _ _ _ (entry_points m ρ c) (entry_transposed m ρ c) i j)

theorem exit_bin_two (i j : Fin 256) : (W2 m ρ c (Proc.devRef .tc main_v18_2) : Vec Ideal S256x256 .i32) (ix2 i j)
    = bin (pts (arg0 m c)) 2 i j :=
  (congrFun ((W2_arr m ρ c 6).trans (first_array6 (V1 m ρ) c)) _).trans
    (bin_two _ _ _ _ _ (entry_points m ρ c) (entry_transposed m ρ c) i j)

theorem exit_bin_three (i j : Fin 256) : (W2 m ρ c (Proc.devRef .tc main_v18_3) : Vec Ideal S256x256 .i32) (ix2 i j)
    = bin (pts (arg0 m c)) 3 i j :=
  (congrFun ((W2_arr m ρ c 7).trans (first_array7 (V1 m ρ) c)) _).trans
    (bin_three _ _ _ _ _ (entry_points m ρ c) (entry_transposed m ρ c) i j)

theorem exit_table (r h : Fin 256) (hr : r.val ≤ 180) : (W2 m ρ c (Proc.devRef .tc main_v18_4) : Vec Ideal S256x256 .f32) (ix2 r h)
    = lin (mat (arg3 m c)) (vec (arg4 m c)) (fifteenths r.val) h :=
  (congrFun ((W2_arr m ρ c 8).trans (first_array8 (V1 m ρ) c)) _).trans
    (table_value _ _ _ _ _ _ (fun k h => angle_weights (W0 m ρ c) k h) (fun h => angle_bias (W0 m ρ c) h) r h hr)

/-! ## What the second kernel is entered with -/

theorem bin_number (hp : Finite (pts (arg0 m c))) (n : ℕ) (i j : Fin 256) :
    bin (pts (arg0 m c)) n i j = BitVec.ofNat 32 (bin (pts (arg0 m c)) n i j).toNat ∧ (bin (pts (arg0 m c)) n i j).toNat ≤ 180 := by
  obtain ⟨b, hb, e⟩ := bin_le hp n i j
  rw [e, toNat_small b (by omega)]
  exact ⟨rfl, hb⟩

theorem kept_argument (r : Ref sig .tc) (hr : r ∈ argRefs) : W2 m ρ c (Proc.devRef .tc r) = m ((c : Thread nD τ).loc r) :=
  W2_args m ρ c r hr

/-- The kernel program's result. -/
theorem result_value (hp : Finite (pts (arg0 m c))) (i j h : Fin 256) :
    (Cert.KernelIdeal.Run.result m ρ c : Vec Ideal S1x256x256x256 .f32) (ix4 0 i j h)
      = whole (pts (arg0 m c)) (mat (arg1 m c)) (vec (arg2 m c)) (mat (arg3 m c)) (vec (arg4 m c)) (mat (arg5 m c)) (vec (arg6 m c))
          (vec (arg7 m c)) (vec (arg8 m c)) i j h := by
  obtain ⟨r, hr⟩ : ∃ r : Fin 65536, r.val = i.val * 256 + j.val := ⟨⟨i.val * 256 + j.val, by omega⟩, rfl⟩
  have hi : rowOf r = i := Fin.ext (by show r.val / 256 = i.val; omega)
  have hj : colOf r = j := Fin.ext (by show r.val % 256 = j.val; omega)
  refine (result_rows (W4 m ρ c) i j h r hr).trans ?_
  refine (congrFun (W4_arr m ρ c 11) _).trans ?_
  refine (second_array (V3 m ρ) c (mat (arg1 m c)) (vec (arg2 m c)) (mat (arg3 m c)) (vec (arg4 m c)) (mat (arg5 m c)) (vec (arg6 m c))
    (vec (arg7 m c)) (vec (arg8 m c))
    (fun r => Ideal.div (dist (pts (arg0 m c)) (rowOf r) (colOf r)) (Ideal.ofBits .f32 0x3E4CCCCD#32))
    (fun r => (bin (pts (arg0 m c)) 1 (rowOf r) (colOf r)).toNat) (fun r => (bin (pts (arg0 m c)) 2 (rowOf r) (colOf r)).toNat)
    (fun r => (bin (pts (arg0 m c)) 3 (rowOf r) (colOf r)).toNat)
    (fun r => (distance_column (W2 m ρ c) _ _ r (row_split r)).trans (exit_distance m ρ c _ _))
    (fun r => ((first_bin_column (W2 m ρ c) _ _ r (row_split r)).trans (exit_bin_one m ρ c _ _)).trans (bin_number m c hp 1 _ _).1)
    (fun r => (bin_number m c hp 1 _ _).2)
    (fun r => ((second_bin_column (W2 m ρ c) _ _ r (row_split r)).trans (exit_bin_two m ρ c _ _)).trans (bin_number m c hp 2 _ _).1)
    (fun r => (bin_number m c hp 2 _ _).2)
    (fun r => ((third_bin_column (W2 m ρ c) _ _ r (row_split r)).trans (exit_bin_three m ρ c _ _)).trans (bin_number m c hp 3 _ _).1)
    (fun r => (bin_number m c hp 3 _ _).2)
    (fun r h hr => (congrFun (W3_of m ρ c main_v18_4 (by decide)) _).trans (exit_table m ρ c r h hr))
    (fun k h => (congrFun ((W3_of m ρ c main_v15 (by decide)).trans (W2_of m ρ c main_v15 (by decide))) _).trans (distance_weights (W0 m ρ c) k h))
    (fun h => (distance_bias (W2 m ρ c) h).trans (congrFun (kept_argument m ρ c main_arg2 (by decide)) _))
    (fun k h => (congrFun ((W3_of m ρ c main_v16 (by decide)).trans (W2_of m ρ c main_v16 (by decide))) _).trans (dense_weights (W0 m ρ c) k h))
    (fun h => (dense_bias (W2 m ρ c) h).trans (congrFun (kept_argument m ρ c main_arg6 (by decide)) _))
    (fun h => (scale_value (W2 m ρ c) h).trans (congrFun (kept_argument m ρ c main_arg7 (by decide)) _))
    (fun h => (shift_value (W2 m ρ c) h).trans (congrFun (kept_argument m ρ c main_arg8 (by decide)) _)) r h).trans ?_
  rw [hi, hj]
  rfl

end Cert.KernelValue

end
-- ==== Proof.Points.lean ====
/- What the precondition says: every coordinate of the points is a real number. -/
module

public import proofs.«01_k».proof.Pre_finite_points
public import proofs.«01_k».proof.Proof.Args
public import proofs.«01_k».proof.Proof.Consts

@[expose] public section

noncomputable section

namespace Cert.Pre_finite_points

open Cert.Geo Idealize.ShloMosaic

theorem facts : Facts := ⟨by decide⟩

attribute [local instance] facts

/-- A number whose absolute value lies below `⊤` is a real number. -/
theorem real_of_abs_lt {x : EReal} (h : max x (-x) < ⊤) : ∃ r : ℝ, x = (r : EReal) := by
  induction x using EReal.rec with
  | bot => simp at h
  | coe r => exact ⟨r, rfl⟩
  | top => simp at h

theorem finite_of_fn (x0 : FVec Ideal S1x256x3 .f32) (x1 : FVec Ideal S256x256 .f32) (x2 : FVec Ideal S256 .f32)
    (x3 : FVec Ideal S256x256 .f32) (x4 : FVec Ideal S256 .f32) (x5 : FVec Ideal S256x256 .f32) (x6 x7 x8 : FVec Ideal S256 .f32)
    (h : fn x0 x1 x2 x3 x4 x5 x6 x7 x8 = fun _ => 1#1) : Finite (pts x0) := by
  have each : ∀ (i : Fin 256) (a : Fin 3), ∃ r : ℝ, pts x0 i a = (r : EReal) := by
    intro i a
    have e := congrFun h (ix3 0 i a)
    revert e
    pointwise [fn]
    intro e
    refine real_of_abs_lt (x := pts x0 i a) ?_
    rw [← Cert.Geo.word_top]
    by_contra hn
    have e' : decide (max (pts x0 i a) (-pts x0 i a) < Ideal.ofBits .f32 0x7F800000#32) = false := decide_eq_false hn
    change BitVec.ofBool (decide (max (pts x0 i a) (-pts x0 i a) < Ideal.ofBits .f32 0x7F800000#32)) = 1#1 at e
    rw [e'] at e
    exact absurd e (by decide)
  choose q hq using each
  exact ⟨q, hq⟩

end Cert.Pre_finite_points

end
-- ==== Proof.lean ====
/- The proof of the certificate's claims: the frames of the two kernel programs and of the reference, the two named
   constants of the idealised kernel, and the equality of the idealised kernel's result and the reference's. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.RefDense
public import proofs.«01_k».proof.Proof.KernelValue
public import proofs.«01_k».proof.Proof.Points

@[expose] public section

noncomputable section

namespace Cert.Proof

open Idealize.ShloMosaic Idealize.SL.Sem

/-- The reference runs, leaves its arguments as they were, and declares no semaphore. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The two named constants of the idealised kernel. -/
theorem constants : Cert.preserves_Kernel_KernelIdeal :=
  ⟨IdealRules.named_const.statement Cert.KernelIdeal.κ "taken" .f32 0x7F61B1E6#32 ⊤ rfl,
    IdealRules.named_const.statement Cert.KernelIdeal.κ "inv_sigma_a" .f32 0x3D888889#32 ((1 / 15 : ℝ) : EReal) rfl⟩

attribute [local instance] Cert.Pre_finite_points.facts

/-- From finite points the reference's result is the kernel's. -/
theorem same_result : Cert.algebraic_KernelIdeal_ReferenceIdeal_pre_finite_points := by
  intro m g m' g' hpre hargs
  refine ⟨fun c => Cert.KernelIdeal.Run.result m g c, Cert.KernelIdeal.Run.run m g, ?_⟩
  refine (θ_run _ _ _).mono (fun r h c => ⟨?_, (h c).2⟩) (Cert.ReferenceIdeal.Value.run (F := Ideal) m' g')
  obtain ⟨e0, e1, e2, e3, e4, e5, e6, e7, e8⟩ := hargs c
  have hp := Cert.Pre_finite_points.finite_of_fn _ _ _ _ _ _ _ _ _ (hpre c)
  refine ((h c).1.trans (Cert.ReferenceIdeal.Read.val_main_v171_eq (StableHlo.launchContents m' c))).trans ?_
  rw [
    show StableHlo.launchContents m' c (Proc.devRef .tc Cert.ReferenceIdeal.main_arg0) = _ from e0,
    show StableHlo.launchContents m' c (Proc.devRef .tc Cert.ReferenceIdeal.main_arg1) = _ from e1,
    show StableHlo.launchContents m' c (Proc.devRef .tc Cert.ReferenceIdeal.main_arg2) = _ from e2,
    show StableHlo.launchContents m' c (Proc.devRef .tc Cert.ReferenceIdeal.main_arg3) = _ from e3,
    show StableHlo.launchContents m' c (Proc.devRef .tc Cert.ReferenceIdeal.main_arg4) = _ from e4,
    show StableHlo.launchContents m' c (Proc.devRef .tc Cert.ReferenceIdeal.main_arg5) = _ from e5,
    show StableHlo.launchContents m' c (Proc.devRef .tc Cert.ReferenceIdeal.main_arg6) = _ from e6,
    show StableHlo.launchContents m' c (Proc.devRef .tc Cert.ReferenceIdeal.main_arg7) = _ from e7,
    show StableHlo.launchContents m' c (Proc.devRef .tc Cert.ReferenceIdeal.main_arg8) = _ from e8]
  funext q
  obtain ⟨a, i, j, k, rfl⟩ : ∃ (a : Fin 1) (i j k : Fin 256), q = ix4 a i j k := ⟨q 0, q 1, q 2, q 3, eq_ix4 q⟩
  obtain rfl : a = 0 := Subsingleton.elim _ _
  exact (Cert.RefValue.result_value _ _ _ _ _ _ _ _ _ hp i j k).trans (Cert.KernelValue.result_value m g c hp i j k).symm

theorem claim : Cert.Claim :=
  ⟨Cert.Kernel.Gen.facts, Cert.KernelIdeal.Gen.facts, Cert.ReferenceIdeal.Gen.facts, Cert.Pre_finite_points.facts,
    fun m g _ => Cert.Kernel.Gen.frame m g, fun m g _ => Cert.KernelIdeal.Gen.frame m g,
    fun m g _ => Cert.KernelIdeal.Gen.frame m g, reference_frame, fun m g _ => reference_frame m g trivial,
    constants, same_result⟩

end Cert.Proof

end
